-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelNew (m : (ℓ : Loc Cert.KernelNew.nD Cert.KernelNew.τ Cert.KernelNew.sig) → Buf (Elt Bits) ℓ) : Prop :=
  True

def Pre_KernelNewIdeal (m : (ℓ : Loc Cert.KernelNewIdeal.nD Cert.KernelNewIdeal.τ Cert.KernelNewIdeal.sig) → Buf (Elt Ideal) ℓ) : Prop :=
  True

def Pre_ReferenceNewIdeal (m : (ℓ : Loc Cert.ReferenceNewIdeal.nD Cert.ReferenceNewIdeal.τ Cert.ReferenceNewIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_KernelNew [hKernelNew : Cert.KernelNew.Facts] : Prop :=
  ∀ (m : (ℓ : Loc Cert.KernelNew.nD Cert.KernelNew.τ Cert.KernelNew.sig) → Buf (Elt Bits) ℓ) (g : Dev Cert.KernelNew.nD → PrngReg), Pre_KernelNew m →
    θ_run (Cert.KernelNew.defs (F := Bits)) (onTc (τ := Cert.KernelNew.τ) (Cert.KernelNew.main (F := Bits))) ⟨m, fun _ => 0, g⟩ (fun r => (∀ c : Dev Cert.KernelNew.nD,
      r.2.mem ((c.tc : Thread Cert.KernelNew.nD Cert.KernelNew.τ).loc Cert.KernelNew.main_arg0) = m ((c.tc : Thread Cert.KernelNew.nD Cert.KernelNew.τ).loc Cert.KernelNew.main_arg0)
      ∧ r.2.mem ((c.tc : Thread Cert.KernelNew.nD Cert.KernelNew.τ).loc Cert.KernelNew.main_arg1) = m ((c.tc : Thread Cert.KernelNew.nD Cert.KernelNew.τ).loc Cert.KernelNew.main_arg1)
      ∧ r.2.mem ((c.tc : Thread Cert.KernelNew.nD Cert.KernelNew.τ).loc Cert.KernelNew.main_arg2) = m ((c.tc : Thread Cert.KernelNew.nD Cert.KernelNew.τ).loc Cert.KernelNew.main_arg2)
      ∧ r.2.mem ((c.tc : Thread Cert.KernelNew.nD Cert.KernelNew.τ).loc Cert.KernelNew.main_arg3) = m ((c.tc : Thread Cert.KernelNew.nD Cert.KernelNew.τ).loc Cert.KernelNew.main_arg3)
      ∧ r.2.mem ((c.tc : Thread Cert.KernelNew.nD Cert.KernelNew.τ).loc Cert.KernelNew.main_arg4) = m ((c.tc : Thread Cert.KernelNew.nD Cert.KernelNew.τ).loc Cert.KernelNew.main_arg4)
      ∧ r.2.mem ((c.tc : Thread Cert.KernelNew.nD Cert.KernelNew.τ).loc Cert.KernelNew.main_arg5) = m ((c.tc : Thread Cert.KernelNew.nD Cert.KernelNew.τ).loc Cert.KernelNew.main_arg5)
      ∧ r.2.mem ((c.tc : Thread Cert.KernelNew.nD Cert.KernelNew.τ).loc Cert.KernelNew.main_arg6) = m ((c.tc : Thread Cert.KernelNew.nD Cert.KernelNew.τ).loc Cert.KernelNew.main_arg6)
      ∧ r.2.mem ((c.tc : Thread Cert.KernelNew.nD Cert.KernelNew.τ).loc Cert.KernelNew.main_arg7) = m ((c.tc : Thread Cert.KernelNew.nD Cert.KernelNew.τ).loc Cert.KernelNew.main_arg7)
      ∧ r.2.mem ((c.tc : Thread Cert.KernelNew.nD Cert.KernelNew.τ).loc Cert.KernelNew.main_arg8) = m ((c.tc : Thread Cert.KernelNew.nD Cert.KernelNew.τ).loc Cert.KernelNew.main_arg8))
      ∧ r.2.sem = fun _ => 0)

def quiescent_KernelNewIdeal [hKernelNewIdeal : Cert.KernelNewIdeal.Facts] : Prop :=
  ∀ (m : (ℓ : Loc Cert.KernelNewIdeal.nD Cert.KernelNewIdeal.τ Cert.KernelNewIdeal.sig) → Buf (Elt Ideal) ℓ) (g : Dev Cert.KernelNewIdeal.nD → PrngReg), Pre_KernelNewIdeal m →
    θ_run (Cert.KernelNewIdeal.defs (F := Ideal)) (onTc (τ := Cert.KernelNewIdeal.τ) (Cert.KernelNewIdeal.main (F := Ideal))) ⟨m, fun _ => 0, g⟩ (fun r => (∀ c : Dev Cert.KernelNewIdeal.nD,
      r.2.mem ((c.tc : Thread Cert.KernelNewIdeal.nD Cert.KernelNewIdeal.τ).loc Cert.KernelNewIdeal.main_arg0) = m ((c.tc : Thread Cert.KernelNewIdeal.nD Cert.KernelNewIdeal.τ).loc Cert.KernelNewIdeal.main_arg0)
      ∧ r.2.mem ((c.tc : Thread Cert.KernelNewIdeal.nD Cert.KernelNewIdeal.τ).loc Cert.KernelNewIdeal.main_arg1) = m ((c.tc : Thread Cert.KernelNewIdeal.nD Cert.KernelNewIdeal.τ).loc Cert.KernelNewIdeal.main_arg1)
      ∧ r.2.mem ((c.tc : Thread Cert.KernelNewIdeal.nD Cert.KernelNewIdeal.τ).loc Cert.KernelNewIdeal.main_arg2) = m ((c.tc : Thread Cert.KernelNewIdeal.nD Cert.KernelNewIdeal.τ).loc Cert.KernelNewIdeal.main_arg2)
      ∧ r.2.mem ((c.tc : Thread Cert.KernelNewIdeal.nD Cert.KernelNewIdeal.τ).loc Cert.KernelNewIdeal.main_arg3) = m ((c.tc : Thread Cert.KernelNewIdeal.nD Cert.KernelNewIdeal.τ).loc Cert.KernelNewIdeal.main_arg3)
      ∧ r.2.mem ((c.tc : Thread Cert.KernelNewIdeal.nD Cert.KernelNewIdeal.τ).loc Cert.KernelNewIdeal.main_arg4) = m ((c.tc : Thread Cert.KernelNewIdeal.nD Cert.KernelNewIdeal.τ).loc Cert.KernelNewIdeal.main_arg4)
      ∧ r.2.mem ((c.tc : Thread Cert.KernelNewIdeal.nD Cert.KernelNewIdeal.τ).loc Cert.KernelNewIdeal.main_arg5) = m ((c.tc : Thread Cert.KernelNewIdeal.nD Cert.KernelNewIdeal.τ).loc Cert.KernelNewIdeal.main_arg5)
      ∧ r.2.mem ((c.tc : Thread Cert.KernelNewIdeal.nD Cert.KernelNewIdeal.τ).loc Cert.KernelNewIdeal.main_arg6) = m ((c.tc : Thread Cert.KernelNewIdeal.nD Cert.KernelNewIdeal.τ).loc Cert.KernelNewIdeal.main_arg6)
      ∧ r.2.mem ((c.tc : Thread Cert.KernelNewIdeal.nD Cert.KernelNewIdeal.τ).loc Cert.KernelNewIdeal.main_arg7) = m ((c.tc : Thread Cert.KernelNewIdeal.nD Cert.KernelNewIdeal.τ).loc Cert.KernelNewIdeal.main_arg7)
      ∧ r.2.mem ((c.tc : Thread Cert.KernelNewIdeal.nD Cert.KernelNewIdeal.τ).loc Cert.KernelNewIdeal.main_arg8) = m ((c.tc : Thread Cert.KernelNewIdeal.nD Cert.KernelNewIdeal.τ).loc Cert.KernelNewIdeal.main_arg8))
      ∧ r.2.sem = fun _ => 0)

def quiescent_ReferenceNewIdeal [hReferenceNewIdeal : Cert.ReferenceNewIdeal.Facts] : Prop :=
  ∀ (m : (ℓ : Loc Cert.ReferenceNewIdeal.nD Cert.ReferenceNewIdeal.τ Cert.ReferenceNewIdeal.sig) → Buf (Elt Ideal) ℓ) (g : Dev Cert.ReferenceNewIdeal.nD → PrngReg), Pre_ReferenceNewIdeal m →
    θ_run (Cert.ReferenceNewIdeal.defs (F := Ideal)) (onTc (τ := Cert.ReferenceNewIdeal.τ) (Cert.ReferenceNewIdeal.main (F := Ideal))) ⟨m, fun _ => 0, g⟩ (fun r => (∀ c : Dev Cert.ReferenceNewIdeal.nD,
      r.2.mem ((c.tc : Thread Cert.ReferenceNewIdeal.nD Cert.ReferenceNewIdeal.τ).loc Cert.ReferenceNewIdeal.main_arg0) = m ((c.tc : Thread Cert.ReferenceNewIdeal.nD Cert.ReferenceNewIdeal.τ).loc Cert.ReferenceNewIdeal.main_arg0)
      ∧ r.2.mem ((c.tc : Thread Cert.ReferenceNewIdeal.nD Cert.ReferenceNewIdeal.τ).loc Cert.ReferenceNewIdeal.main_arg1) = m ((c.tc : Thread Cert.ReferenceNewIdeal.nD Cert.ReferenceNewIdeal.τ).loc Cert.ReferenceNewIdeal.main_arg1)
      ∧ r.2.mem ((c.tc : Thread Cert.ReferenceNewIdeal.nD Cert.ReferenceNewIdeal.τ).loc Cert.ReferenceNewIdeal.main_arg2) = m ((c.tc : Thread Cert.ReferenceNewIdeal.nD Cert.ReferenceNewIdeal.τ).loc Cert.ReferenceNewIdeal.main_arg2)
      ∧ r.2.mem ((c.tc : Thread Cert.ReferenceNewIdeal.nD Cert.ReferenceNewIdeal.τ).loc Cert.ReferenceNewIdeal.main_arg3) = m ((c.tc : Thread Cert.ReferenceNewIdeal.nD Cert.ReferenceNewIdeal.τ).loc Cert.ReferenceNewIdeal.main_arg3)
      ∧ r.2.mem ((c.tc : Thread Cert.ReferenceNewIdeal.nD Cert.ReferenceNewIdeal.τ).loc Cert.ReferenceNewIdeal.main_arg4) = m ((c.tc : Thread Cert.ReferenceNewIdeal.nD Cert.ReferenceNewIdeal.τ).loc Cert.ReferenceNewIdeal.main_arg4)
      ∧ r.2.mem ((c.tc : Thread Cert.ReferenceNewIdeal.nD Cert.ReferenceNewIdeal.τ).loc Cert.ReferenceNewIdeal.main_arg5) = m ((c.tc : Thread Cert.ReferenceNewIdeal.nD Cert.ReferenceNewIdeal.τ).loc Cert.ReferenceNewIdeal.main_arg5)
      ∧ r.2.mem ((c.tc : Thread Cert.ReferenceNewIdeal.nD Cert.ReferenceNewIdeal.τ).loc Cert.ReferenceNewIdeal.main_arg6) = m ((c.tc : Thread Cert.ReferenceNewIdeal.nD Cert.ReferenceNewIdeal.τ).loc Cert.ReferenceNewIdeal.main_arg6)
      ∧ r.2.mem ((c.tc : Thread Cert.ReferenceNewIdeal.nD Cert.ReferenceNewIdeal.τ).loc Cert.ReferenceNewIdeal.main_arg7) = m ((c.tc : Thread Cert.ReferenceNewIdeal.nD Cert.ReferenceNewIdeal.τ).loc Cert.ReferenceNewIdeal.main_arg7)
      ∧ r.2.mem ((c.tc : Thread Cert.ReferenceNewIdeal.nD Cert.ReferenceNewIdeal.τ).loc Cert.ReferenceNewIdeal.main_arg8) = m ((c.tc : Thread Cert.ReferenceNewIdeal.nD Cert.ReferenceNewIdeal.τ).loc Cert.ReferenceNewIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_KernelNew_KernelNewIdeal : Prop :=
  True

def algebraic_KernelNewIdeal_ReferenceNewIdeal [hKernelNewIdeal : Cert.KernelNewIdeal.Facts] [hReferenceNewIdeal : Cert.ReferenceNewIdeal.Facts] : Prop :=
  ∀ (m : (ℓ : Loc Cert.KernelNewIdeal.nD Cert.KernelNewIdeal.τ Cert.KernelNewIdeal.sig) → Buf (Elt Ideal) ℓ) (g : Dev Cert.KernelNewIdeal.nD → PrngReg)
    (m' : (ℓ : Loc Cert.ReferenceNewIdeal.nD Cert.ReferenceNewIdeal.τ Cert.ReferenceNewIdeal.sig) → Buf (Elt Ideal) ℓ) (g' : Dev Cert.ReferenceNewIdeal.nD → PrngReg), Pre_KernelNewIdeal m →
    (∀ c : Dev Cert.KernelNewIdeal.nD,
      m' ((c.tc : Thread Cert.ReferenceNewIdeal.nD Cert.ReferenceNewIdeal.τ).loc Cert.ReferenceNewIdeal.main_arg0) = m ((c.tc : Thread Cert.KernelNewIdeal.nD Cert.KernelNewIdeal.τ).loc Cert.KernelNewIdeal.main_arg0)
      ∧ m' ((c.tc : Thread Cert.ReferenceNewIdeal.nD Cert.ReferenceNewIdeal.τ).loc Cert.ReferenceNewIdeal.main_arg1) = m ((c.tc : Thread Cert.KernelNewIdeal.nD Cert.KernelNewIdeal.τ).loc Cert.KernelNewIdeal.main_arg1)
      ∧ m' ((c.tc : Thread Cert.ReferenceNewIdeal.nD Cert.ReferenceNewIdeal.τ).loc Cert.ReferenceNewIdeal.main_arg2) = m ((c.tc : Thread Cert.KernelNewIdeal.nD Cert.KernelNewIdeal.τ).loc Cert.KernelNewIdeal.main_arg2)
      ∧ m' ((c.tc : Thread Cert.ReferenceNewIdeal.nD Cert.ReferenceNewIdeal.τ).loc Cert.ReferenceNewIdeal.main_arg3) = m ((c.tc : Thread Cert.KernelNewIdeal.nD Cert.KernelNewIdeal.τ).loc Cert.KernelNewIdeal.main_arg3)
      ∧ m' ((c.tc : Thread Cert.ReferenceNewIdeal.nD Cert.ReferenceNewIdeal.τ).loc Cert.ReferenceNewIdeal.main_arg4) = m ((c.tc : Thread Cert.KernelNewIdeal.nD Cert.KernelNewIdeal.τ).loc Cert.KernelNewIdeal.main_arg4)
      ∧ m' ((c.tc : Thread Cert.ReferenceNewIdeal.nD Cert.ReferenceNewIdeal.τ).loc Cert.ReferenceNewIdeal.main_arg5) = m ((c.tc : Thread Cert.KernelNewIdeal.nD Cert.KernelNewIdeal.τ).loc Cert.KernelNewIdeal.main_arg5)
      ∧ m' ((c.tc : Thread Cert.ReferenceNewIdeal.nD Cert.ReferenceNewIdeal.τ).loc Cert.ReferenceNewIdeal.main_arg6) = m ((c.tc : Thread Cert.KernelNewIdeal.nD Cert.KernelNewIdeal.τ).loc Cert.KernelNewIdeal.main_arg6)
      ∧ m' ((c.tc : Thread Cert.ReferenceNewIdeal.nD Cert.ReferenceNewIdeal.τ).loc Cert.ReferenceNewIdeal.main_arg7) = m ((c.tc : Thread Cert.KernelNewIdeal.nD Cert.KernelNewIdeal.τ).loc Cert.KernelNewIdeal.main_arg7)
      ∧ m' ((c.tc : Thread Cert.ReferenceNewIdeal.nD Cert.ReferenceNewIdeal.τ).loc Cert.ReferenceNewIdeal.main_arg8) = m ((c.tc : Thread Cert.KernelNewIdeal.nD Cert.KernelNewIdeal.τ).loc Cert.KernelNewIdeal.main_arg8)) →
    ∃ (v0 : (c : Dev Cert.KernelNewIdeal.nD) → Buf (Elt Ideal) ((c.tc : Thread Cert.KernelNewIdeal.nD Cert.KernelNewIdeal.τ).loc Cert.KernelNewIdeal.main_v12)) (v1 : (c : Dev Cert.KernelNewIdeal.nD) → Buf (Elt Ideal) ((c.tc : Thread Cert.KernelNewIdeal.nD Cert.KernelNewIdeal.τ).loc Cert.KernelNewIdeal.main_v13)) (v2 : (c : Dev Cert.KernelNewIdeal.nD) → Buf (Elt Ideal) ((c.tc : Thread Cert.KernelNewIdeal.nD Cert.KernelNewIdeal.τ).loc Cert.KernelNewIdeal.main_v14)),
      θ_run (Cert.KernelNewIdeal.defs (F := Ideal)) (onTc (τ := Cert.KernelNewIdeal.τ) (Cert.KernelNewIdeal.main (F := Ideal))) ⟨m, fun _ => 0, g⟩ (fun r => ∀ c : Dev Cert.KernelNewIdeal.nD,
          r.2.mem ((c.tc : Thread Cert.KernelNewIdeal.nD Cert.KernelNewIdeal.τ).loc Cert.KernelNewIdeal.main_v12) = v0 c
          ∧ r.2.mem ((c.tc : Thread Cert.KernelNewIdeal.nD Cert.KernelNewIdeal.τ).loc Cert.KernelNewIdeal.main_v13) = v1 c
          ∧ r.2.mem ((c.tc : Thread Cert.KernelNewIdeal.nD Cert.KernelNewIdeal.τ).loc Cert.KernelNewIdeal.main_v14) = v2 c
          ∧ r.2.mem ((c.tc : Thread Cert.KernelNewIdeal.nD Cert.KernelNewIdeal.τ).loc Cert.KernelNewIdeal.main_arg0) = m ((c.tc : Thread Cert.KernelNewIdeal.nD Cert.KernelNewIdeal.τ).loc Cert.KernelNewIdeal.main_arg0)
          ∧ r.2.mem ((c.tc : Thread Cert.KernelNewIdeal.nD Cert.KernelNewIdeal.τ).loc Cert.KernelNewIdeal.main_arg1) = m ((c.tc : Thread Cert.KernelNewIdeal.nD Cert.KernelNewIdeal.τ).loc Cert.KernelNewIdeal.main_arg1)
          ∧ r.2.mem ((c.tc : Thread Cert.KernelNewIdeal.nD Cert.KernelNewIdeal.τ).loc Cert.KernelNewIdeal.main_arg2) = m ((c.tc : Thread Cert.KernelNewIdeal.nD Cert.KernelNewIdeal.τ).loc Cert.KernelNewIdeal.main_arg2)
          ∧ r.2.mem ((c.tc : Thread Cert.KernelNewIdeal.nD Cert.KernelNewIdeal.τ).loc Cert.KernelNewIdeal.main_arg3) = m ((c.tc : Thread Cert.KernelNewIdeal.nD Cert.KernelNewIdeal.τ).loc Cert.KernelNewIdeal.main_arg3)
          ∧ r.2.mem ((c.tc : Thread Cert.KernelNewIdeal.nD Cert.KernelNewIdeal.τ).loc Cert.KernelNewIdeal.main_arg4) = m ((c.tc : Thread Cert.KernelNewIdeal.nD Cert.KernelNewIdeal.τ).loc Cert.KernelNewIdeal.main_arg4)
          ∧ r.2.mem ((c.tc : Thread Cert.KernelNewIdeal.nD Cert.KernelNewIdeal.τ).loc Cert.KernelNewIdeal.main_arg5) = m ((c.tc : Thread Cert.KernelNewIdeal.nD Cert.KernelNewIdeal.τ).loc Cert.KernelNewIdeal.main_arg5)
          ∧ r.2.mem ((c.tc : Thread Cert.KernelNewIdeal.nD Cert.KernelNewIdeal.τ).loc Cert.KernelNewIdeal.main_arg6) = m ((c.tc : Thread Cert.KernelNewIdeal.nD Cert.KernelNewIdeal.τ).loc Cert.KernelNewIdeal.main_arg6)
          ∧ r.2.mem ((c.tc : Thread Cert.KernelNewIdeal.nD Cert.KernelNewIdeal.τ).loc Cert.KernelNewIdeal.main_arg7) = m ((c.tc : Thread Cert.KernelNewIdeal.nD Cert.KernelNewIdeal.τ).loc Cert.KernelNewIdeal.main_arg7)
          ∧ r.2.mem ((c.tc : Thread Cert.KernelNewIdeal.nD Cert.KernelNewIdeal.τ).loc Cert.KernelNewIdeal.main_arg8) = m ((c.tc : Thread Cert.KernelNewIdeal.nD Cert.KernelNewIdeal.τ).loc Cert.KernelNewIdeal.main_arg8))
      ∧ θ_run (Cert.ReferenceNewIdeal.defs (F := Ideal)) (onTc (τ := Cert.ReferenceNewIdeal.τ) (Cert.ReferenceNewIdeal.main (F := Ideal))) ⟨m', fun _ => 0, g'⟩ (fun r => ∀ c : Dev Cert.ReferenceNewIdeal.nD,
          r.2.mem ((c.tc : Thread Cert.ReferenceNewIdeal.nD Cert.ReferenceNewIdeal.τ).loc Cert.ReferenceNewIdeal.main_v134) = v0 c
          ∧ r.2.mem ((c.tc : Thread Cert.ReferenceNewIdeal.nD Cert.ReferenceNewIdeal.τ).loc Cert.ReferenceNewIdeal.main_v165) = v1 c
          ∧ r.2.mem ((c.tc : Thread Cert.ReferenceNewIdeal.nD Cert.ReferenceNewIdeal.τ).loc Cert.ReferenceNewIdeal.main_v166) = v2 c
          ∧ r.2.mem ((c.tc : Thread Cert.ReferenceNewIdeal.nD Cert.ReferenceNewIdeal.τ).loc Cert.ReferenceNewIdeal.main_arg0) = m' ((c.tc : Thread Cert.ReferenceNewIdeal.nD Cert.ReferenceNewIdeal.τ).loc Cert.ReferenceNewIdeal.main_arg0)
          ∧ r.2.mem ((c.tc : Thread Cert.ReferenceNewIdeal.nD Cert.ReferenceNewIdeal.τ).loc Cert.ReferenceNewIdeal.main_arg1) = m' ((c.tc : Thread Cert.ReferenceNewIdeal.nD Cert.ReferenceNewIdeal.τ).loc Cert.ReferenceNewIdeal.main_arg1)
          ∧ r.2.mem ((c.tc : Thread Cert.ReferenceNewIdeal.nD Cert.ReferenceNewIdeal.τ).loc Cert.ReferenceNewIdeal.main_arg2) = m' ((c.tc : Thread Cert.ReferenceNewIdeal.nD Cert.ReferenceNewIdeal.τ).loc Cert.ReferenceNewIdeal.main_arg2)
          ∧ r.2.mem ((c.tc : Thread Cert.ReferenceNewIdeal.nD Cert.ReferenceNewIdeal.τ).loc Cert.ReferenceNewIdeal.main_arg3) = m' ((c.tc : Thread Cert.ReferenceNewIdeal.nD Cert.ReferenceNewIdeal.τ).loc Cert.ReferenceNewIdeal.main_arg3)
          ∧ r.2.mem ((c.tc : Thread Cert.ReferenceNewIdeal.nD Cert.ReferenceNewIdeal.τ).loc Cert.ReferenceNewIdeal.main_arg4) = m' ((c.tc : Thread Cert.ReferenceNewIdeal.nD Cert.ReferenceNewIdeal.τ).loc Cert.ReferenceNewIdeal.main_arg4)
          ∧ r.2.mem ((c.tc : Thread Cert.ReferenceNewIdeal.nD Cert.ReferenceNewIdeal.τ).loc Cert.ReferenceNewIdeal.main_arg5) = m' ((c.tc : Thread Cert.ReferenceNewIdeal.nD Cert.ReferenceNewIdeal.τ).loc Cert.ReferenceNewIdeal.main_arg5)
          ∧ r.2.mem ((c.tc : Thread Cert.ReferenceNewIdeal.nD Cert.ReferenceNewIdeal.τ).loc Cert.ReferenceNewIdeal.main_arg6) = m' ((c.tc : Thread Cert.ReferenceNewIdeal.nD Cert.ReferenceNewIdeal.τ).loc Cert.ReferenceNewIdeal.main_arg6)
          ∧ r.2.mem ((c.tc : Thread Cert.ReferenceNewIdeal.nD Cert.ReferenceNewIdeal.τ).loc Cert.ReferenceNewIdeal.main_arg7) = m' ((c.tc : Thread Cert.ReferenceNewIdeal.nD Cert.ReferenceNewIdeal.τ).loc Cert.ReferenceNewIdeal.main_arg7)
          ∧ r.2.mem ((c.tc : Thread Cert.ReferenceNewIdeal.nD Cert.ReferenceNewIdeal.τ).loc Cert.ReferenceNewIdeal.main_arg8) = m' ((c.tc : Thread Cert.ReferenceNewIdeal.nD Cert.ReferenceNewIdeal.τ).loc Cert.ReferenceNewIdeal.main_arg8))

def Claim : Prop :=
  ∃ (hKernel : Cert.Kernel.Facts) (hKernelIdeal : Cert.KernelIdeal.Facts) (hReferenceIdeal : Cert.ReferenceIdeal.Facts) (hKernelNew : Cert.KernelNew.Facts) (hKernelNewIdeal : Cert.KernelNewIdeal.Facts) (hReferenceNewIdeal : Cert.ReferenceNewIdeal.Facts),
    quiescent_Kernel (hKernel := hKernel)
    ∧ quiescent_KernelIdeal (hKernelIdeal := hKernelIdeal)
    ∧ quiescent_ReferenceIdeal (hReferenceIdeal := hReferenceIdeal)
    ∧ quiescent_KernelNew (hKernelNew := hKernelNew)
    ∧ quiescent_KernelNewIdeal (hKernelNewIdeal := hKernelNewIdeal)
    ∧ quiescent_ReferenceNewIdeal (hReferenceNewIdeal := hReferenceNewIdeal)
    ∧ preserves_Kernel_KernelIdeal
    ∧ algebraic_KernelIdeal_ReferenceIdeal (hKernelIdeal := hKernelIdeal) (hReferenceIdeal := hReferenceIdeal)
    ∧ preserves_KernelNew_KernelNewIdeal
    ∧ algebraic_KernelNewIdeal_ReferenceNewIdeal (hKernelNewIdeal := hKernelNewIdeal) (hReferenceNewIdeal := hReferenceNewIdeal)
-- ==== Kernel.lean ====
abbrev S16x32x128 : Shape := ⟨3, ![16, 32, 128]⟩
abbrev S16x1x8192 : Shape := ⟨3, ![16, 1, 8192]⟩
abbrev S8192 : Shape := ⟨1, ![8192]⟩
abbrev S8192x128x16 : Shape := ⟨3, ![8192, 128, 16]⟩
abbrev S8192x128 : Shape := ⟨2, ![8192, 128]⟩
abbrev S14848x256x16 : Shape := ⟨3, ![14848, 256, 16]⟩
abbrev S14848x256 : Shape := ⟨2, ![14848, 256]⟩
abbrev S8192x464x16 : Shape := ⟨3, ![8192, 464, 16]⟩
abbrev S8192x464 : Shape := ⟨2, ![8192, 464]⟩
abbrev S16x8192 : Shape := ⟨2, ![16, 8192]⟩
abbrev S16x4096 : Shape := ⟨2, ![16, 4096]⟩
abbrev S256x256 : Shape := ⟨2, ![256, 256]⟩
abbrev S16x256 : Shape := ⟨2, ![16, 256]⟩
abbrev S8192x16x128 : Shape := ⟨3, ![8192, 16, 128]⟩
abbrev S512x16x128 : Shape := ⟨3, ![512, 16, 128]⟩
abbrev S512x128 : Shape := ⟨2, ![512, 128]⟩
abbrev S16x512 : Shape := ⟨2, ![16, 512]⟩
abbrev S2048x128 : Shape := ⟨2, ![2048, 128]⟩
abbrev S512x4x128 : Shape := ⟨3, ![512, 4, 128]⟩
abbrev S128x1x128 : Shape := ⟨3, ![128, 1, 128]⟩
abbrev S128x128 : Shape := ⟨2, ![128, 128]⟩
abbrev S128x8x128 : Shape := ⟨3, ![128, 8, 128]⟩
abbrev S1024x128 : Shape := ⟨2, ![1024, 128]⟩
abbrev S8x128 : Shape := ⟨2, ![8, 128]⟩
abbrev S8x1x128 : Shape := ⟨3, ![8, 1, 128]⟩
abbrev S8x8x128 : Shape := ⟨3, ![8, 8, 128]⟩
abbrev S64x128 : Shape := ⟨2, ![64, 128]⟩
abbrev S4096x128 : Shape := ⟨2, ![4096, 128]⟩
abbrev S4096x512 : Shape := ⟨2, ![4096, 512]⟩
abbrev S1x8192 : Shape := ⟨2, ![1, 8192]⟩
abbrev S16 : Shape := ⟨1, ![16]⟩
abbrev S16x1 : Shape := ⟨2, ![16, 1]⟩
abbrev S512x256 : Shape := ⟨2, ![512, 256]⟩
abbrev S14848x16x256 : Shape := ⟨3, ![14848, 16, 256]⟩
abbrev S16x14848 : Shape := ⟨2, ![16, 14848]⟩
abbrev S256x16x128 : Shape := ⟨3, ![256, 16, 128]⟩
abbrev S256x4x128 : Shape := ⟨3, ![256, 4, 128]⟩
abbrev S8192x256 : Shape := ⟨2, ![8192, 256]⟩
abbrev S464x16x8192 : Shape := ⟨3, ![464, 16, 8192]⟩
abbrev S464x8192 : Shape := ⟨2, ![464, 8192]⟩
abbrev S464x16x128 : Shape := ⟨3, ![464, 16, 128]⟩
abbrev S464x256 : Shape := ⟨2, ![464, 256]⟩
abbrev S7424x128 : Shape := ⟨2, ![7424, 128]⟩
abbrev S1856x128 : Shape := ⟨2, ![1856, 128]⟩
abbrev S1856x8x128 : Shape := ⟨3, ![1856, 8, 128]⟩
abbrev S1856x1x128 : Shape := ⟨3, ![1856, 1, 128]⟩
abbrev S14848x128 : Shape := ⟨2, ![14848, 128]⟩
abbrev S1x128 : Shape := ⟨2, ![1, 128]⟩
abbrev S16x128 : Shape := ⟨2, ![16, 128]⟩

abbrev nBuf : Space → Nat
  | .hbm => 25
  | .vmem => 41
  | .smem => 0
  | _ => 0

abbrev bufTy : (tb : Table) → Fin (tcTables nBuf tb) → BufTy
  | .hbm, ⟨0, _⟩ => ⟨S16x32x128, .bf16⟩
  | .hbm, ⟨1, _⟩ => ⟨S16x1x8192, .bf16⟩
  | .hbm, ⟨2, _⟩ => ⟨S8192, .bf16⟩
  | .hbm, ⟨3, _⟩ => ⟨S8192x128x16, .i8⟩
  | .hbm, ⟨4, _⟩ => ⟨S8192x128, .bf16⟩
  | .hbm, ⟨5, _⟩ => ⟨S14848x256x16, .i8⟩
  | .hbm, ⟨6, _⟩ => ⟨S14848x256, .bf16⟩
  | .hbm, ⟨7, _⟩ => ⟨S14848x256x16, .i8⟩
  | .hbm, ⟨8, _⟩ => ⟨S14848x256, .bf16⟩
  | .hbm, ⟨9, _⟩ => ⟨S8192x464x16, .i8⟩
  | .hbm, ⟨10, _⟩ => ⟨S8192x464, .bf16⟩
  | .hbm, ⟨11, _⟩ => ⟨S16x8192, .bf16⟩
  | .hbm, ⟨12, _⟩ => ⟨S16x4096, .bf16⟩
  | .hbm, ⟨13, _⟩ => ⟨S16x4096, .bf16⟩
  | .hbm, ⟨14, _⟩ => ⟨S8192x16x128, .i8⟩
  | .hbm, ⟨15, _⟩ => ⟨S16x8192, .f32⟩
  | .hbm, ⟨16, _⟩ => ⟨S1x8192, .bf16⟩
  | .hbm, ⟨17, _⟩ => ⟨S16x8192, .bf16⟩
  | .hbm, ⟨18, _⟩ => ⟨S14848x16x256, .i8⟩
  | .hbm, ⟨19, _⟩ => ⟨S14848x16x256, .i8⟩
  | .hbm, ⟨20, _⟩ => ⟨S16x14848, .bf16⟩
  | .hbm, ⟨21, _⟩ => ⟨S464x16x8192, .i8⟩
  | .hbm, ⟨22, _⟩ => ⟨S464x8192, .bf16⟩
  | .hbm, ⟨23, _⟩ => ⟨S16x8192, .bf16⟩
  | .hbm, ⟨24, _⟩ => ⟨S16x1x8192, .bf16⟩
  | .local _ .vmem, ⟨0, _⟩ => ⟨S16x4096, .bf16⟩
  | .local _ .vmem, ⟨1, _⟩ => ⟨S16x4096, .bf16⟩
  | .local _ .vmem, ⟨2, _⟩ => ⟨S16x4096, .bf16⟩
  | .local _ .vmem, ⟨3, _⟩ => ⟨S512x16x128, .i8⟩
  | .local _ .vmem, ⟨4, _⟩ => ⟨S512x16x128, .i8⟩
  | .local _ .vmem, ⟨5, _⟩ => ⟨S512x128, .bf16⟩
  | .local _ .vmem, ⟨6, _⟩ => ⟨S512x128, .bf16⟩
  | .local _ .vmem, ⟨7, _⟩ => ⟨S16x512, .bf16⟩
  | .local _ .vmem, ⟨8, _⟩ => ⟨S16x512, .bf16⟩
  | .local _ .vmem, ⟨9, _⟩ => ⟨S16x512, .f32⟩
  | .local _ .vmem, ⟨10, _⟩ => ⟨S16x512, .f32⟩
  | .local _ .vmem, ⟨11, _⟩ => ⟨S16x8192, .f32⟩
  | .local _ .vmem, ⟨12, _⟩ => ⟨S1x8192, .bf16⟩
  | .local _ .vmem, ⟨13, _⟩ => ⟨S16x8192, .bf16⟩
  | .local _ .vmem, ⟨14, _⟩ => ⟨S16x8192, .bf16⟩
  | .local _ .vmem, ⟨15, _⟩ => ⟨S256x16x128, .i8⟩
  | .local _ .vmem, ⟨16, _⟩ => ⟨S256x16x128, .i8⟩
  | .local _ .vmem, ⟨17, _⟩ => ⟨S256x16x128, .i8⟩
  | .local _ .vmem, ⟨18, _⟩ => ⟨S256x16x128, .i8⟩
  | .local _ .vmem, ⟨19, _⟩ => ⟨S256x256, .bf16⟩
  | .local _ .vmem, ⟨20, _⟩ => ⟨S256x256, .bf16⟩
  | .local _ .vmem, ⟨21, _⟩ => ⟨S256x16x128, .i8⟩
  | .local _ .vmem, ⟨22, _⟩ => ⟨S256x16x128, .i8⟩
  | .local _ .vmem, ⟨23, _⟩ => ⟨S256x16x128, .i8⟩
  | .local _ .vmem, ⟨24, _⟩ => ⟨S256x16x128, .i8⟩
  | .local _ .vmem, ⟨25, _⟩ => ⟨S256x256, .bf16⟩
  | .local _ .vmem, ⟨26, _⟩ => ⟨S256x256, .bf16⟩
  | .local _ .vmem, ⟨27, _⟩ => ⟨S16x256, .bf16⟩
  | .local _ .vmem, ⟨28, _⟩ => ⟨S16x256, .bf16⟩
  | .local _ .vmem, ⟨29, _⟩ => ⟨S16x14848, .bf16⟩
  | .local _ .vmem, ⟨30, _⟩ => ⟨S464x16x128, .i8⟩
  | .local _ .vmem, ⟨31, _⟩ => ⟨S464x16x128, .i8⟩
  | .local _ .vmem, ⟨32, _⟩ => ⟨S464x16x128, .i8⟩
  | .local _ .vmem, ⟨33, _⟩ => ⟨S464x16x128, .i8⟩
  | .local _ .vmem, ⟨34, _⟩ => ⟨S464x256, .bf16⟩
  | .local _ .vmem, ⟨35, _⟩ => ⟨S464x256, .bf16⟩
  | .local _ .vmem, ⟨36, _⟩ => ⟨S16x256, .f32⟩
  | .local _ .vmem, ⟨37, _⟩ => ⟨S16x256, .f32⟩
  | .local _ .vmem, ⟨38, _⟩ => ⟨S16x256, .bf16⟩
  | .local _ .vmem, ⟨39, _⟩ => ⟨S16x256, .bf16⟩
  | .local _ .vmem, ⟨40, _⟩ => ⟨S464x256, .f32⟩
  | _, _ => ⟨S16x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc3_stg5_0 : Ref sig .tc := ⟨.vmem, 23, rfl⟩
abbrev cc3_stg5_1 : Ref sig .tc := ⟨.vmem, 24, rfl⟩
abbrev cc3_stg6_0 : Ref sig .tc := ⟨.vmem, 25, rfl⟩
abbrev cc3_stg6_1 : Ref sig .tc := ⟨.vmem, 26, rfl⟩
abbrev cc3_stg7_0 : Ref sig .tc := ⟨.vmem, 27, rfl⟩
abbrev cc3_stg7_1 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg5_1 : Ref sig .tc := ⟨.vmem, 39, rfl⟩
abbrev cc4_scratch0 : Ref sig .tc := ⟨.vmem, 40, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10
abbrev cc2_sem0_0 : DmaSem sig := 11
abbrev cc2_sem1_0 : DmaSem sig := 12
abbrev cc2_sem2_0 : DmaSem sig := 13
abbrev cc3_sem0_0 : DmaSem sig := 14
abbrev cc3_sem1_0 : DmaSem sig := 15
abbrev cc3_sem1_1 : DmaSem sig := 16
abbrev cc3_sem2_0 : DmaSem sig := 17
abbrev cc3_sem2_1 : DmaSem sig := 18
abbrev cc3_sem3_0 : DmaSem sig := 19
abbrev cc3_sem3_1 : DmaSem sig := 20
abbrev cc3_sem4_0 : DmaSem sig := 21
abbrev cc3_sem4_1 : DmaSem sig := 22
abbrev cc3_sem5_0 : DmaSem sig := 23
abbrev cc3_sem5_1 : DmaSem sig := 24
abbrev cc3_sem6_0 : DmaSem sig := 25
abbrev cc3_sem6_1 : DmaSem sig := 26
abbrev cc3_sem7_0 : DmaSem sig := 27
abbrev cc3_sem7_1 : DmaSem sig := 28
abbrev cc4_sem0_0 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem5_1 : DmaSem sig := 39

abbrev nD : Nat := 1
abbrev τ : Topo := Topo.v7x

variable {F : FTy → Type} [FloatOps F]

abbrev grid0 : Pipeline.Grid := .none

abbrev stage0_0 : Fin 1 → Memref sig .tc .vmem S16x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S16x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x16x128 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

abbrev stage2_0 : Fin 1 → Memref sig .tc .vmem S16x8192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x8192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x8192 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨1, ![58], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S16x8192 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x16x128 .i8 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x16x128 .i8 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x16x128 .i8 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x16x128 .i8 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S16x256 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![c0_i32_0.toNat, c0_i32_1.toNat, v1.toNat]

def cc4_transform_2 (i : grid4.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S16x14848 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S464x16x128 .i8 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S464x16x128 .i8 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S464x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S16x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S16x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]
-- ==== ReferenceIdeal.lean ====
abbrev S16x32x128 : Shape := ⟨3, ![16, 32, 128]⟩
abbrev S16x1x8192 : Shape := ⟨3, ![16, 1, 8192]⟩
abbrev S8192 : Shape := ⟨1, ![8192]⟩
abbrev S8192x128x16 : Shape := ⟨3, ![8192, 128, 16]⟩
abbrev S8192x128 : Shape := ⟨2, ![8192, 128]⟩
abbrev S14848x256x16 : Shape := ⟨3, ![14848, 256, 16]⟩
abbrev S14848x256 : Shape := ⟨2, ![14848, 256]⟩
abbrev S8192x464x16 : Shape := ⟨3, ![8192, 464, 16]⟩
abbrev S8192x464 : Shape := ⟨2, ![8192, 464]⟩
abbrev S16x8192 : Shape := ⟨2, ![16, 8192]⟩
abbrev S16x4096 : Shape := ⟨2, ![16, 4096]⟩
abbrev S16x128x16x2 : Shape := ⟨4, ![16, 128, 16, 2]⟩
abbrev S16x128x16x1 : Shape := ⟨4, ![16, 128, 16, 1]⟩
abbrev S16x128x16 : Shape := ⟨3, ![16, 128, 16]⟩
abbrev S1x16x128x16 : Shape := ⟨4, ![1, 16, 128, 16]⟩
abbrev S2x16x128x16 : Shape := ⟨4, ![2, 16, 128, 16]⟩
abbrev S8192x128x1 : Shape := ⟨3, ![8192, 128, 1]⟩
abbrev S_ : Shape := ⟨0, ![]⟩
abbrev S1x8192x128x16 : Shape := ⟨4, ![1, 8192, 128, 16]⟩
abbrev S2x8192x128x16 : Shape := ⟨4, ![2, 8192, 128, 16]⟩
abbrev S16 : Shape := ⟨1, ![16]⟩
abbrev S16x1 : Shape := ⟨2, ![16, 1]⟩
abbrev S1x8192 : Shape := ⟨2, ![1, 8192]⟩
abbrev S16x256x16x2 : Shape := ⟨4, ![16, 256, 16, 2]⟩
abbrev S16x256x16x1 : Shape := ⟨4, ![16, 256, 16, 1]⟩
abbrev S16x256x16 : Shape := ⟨3, ![16, 256, 16]⟩
abbrev S1x16x256x16 : Shape := ⟨4, ![1, 16, 256, 16]⟩
abbrev S2x16x256x16 : Shape := ⟨4, ![2, 16, 256, 16]⟩
abbrev S14848x256x1 : Shape := ⟨3, ![14848, 256, 1]⟩
abbrev S1x14848x256x16 : Shape := ⟨4, ![1, 14848, 256, 16]⟩
abbrev S2x14848x256x16 : Shape := ⟨4, ![2, 14848, 256, 16]⟩
abbrev S16x14848 : Shape := ⟨2, ![16, 14848]⟩
abbrev S16x464x16x2 : Shape := ⟨4, ![16, 464, 16, 2]⟩
abbrev S16x464x16x1 : Shape := ⟨4, ![16, 464, 16, 1]⟩
abbrev S16x464x16 : Shape := ⟨3, ![16, 464, 16]⟩
abbrev S1x16x464x16 : Shape := ⟨4, ![1, 16, 464, 16]⟩
abbrev S2x16x464x16 : Shape := ⟨4, ![2, 16, 464, 16]⟩
abbrev S8192x464x1 : Shape := ⟨3, ![8192, 464, 1]⟩
abbrev S1x8192x464x16 : Shape := ⟨4, ![1, 8192, 464, 16]⟩
abbrev S2x8192x464x16 : Shape := ⟨4, ![2, 8192, 464, 16]⟩

abbrev nBuf : Space → Nat
  | .hbm => 175
  | .vmem => 0
  | .smem => 0
  | _ => 0

abbrev hbmTy0_0 (i : Nat) : BufTy := match i % 128 with
  | 0 => ⟨S16x32x128, .bf16⟩
  | 1 => ⟨S16x1x8192, .bf16⟩
  | 2 => ⟨S8192, .bf16⟩
  | 3 => ⟨S8192x128x16, .i8⟩
  | 4 => ⟨S8192x128, .bf16⟩
  | 5 => ⟨S14848x256x16, .i8⟩
  | 6 => ⟨S14848x256, .bf16⟩
  | 7 => ⟨S14848x256x16, .i8⟩
  | 8 => ⟨S14848x256, .bf16⟩
  | 9 => ⟨S8192x464x16, .i8⟩
  | 10 => ⟨S8192x464, .bf16⟩
  | 11 => ⟨S16x8192, .bf16⟩
  | 12 => ⟨S16x8192, .f32⟩
  | 13 => ⟨S16x4096, .bf16⟩
  | 14 => ⟨S16x128x16x2, .bf16⟩
  | 15 => ⟨S16x128x16x1, .bf16⟩
  | 16 => ⟨S16x128x16, .bf16⟩
  | 17 => ⟨S16x128x16x1, .bf16⟩
  | 18 => ⟨S16x128x16, .bf16⟩
  | 19 => ⟨S1x16x128x16, .bf16⟩
  | 20 => ⟨S1x16x128x16, .bf16⟩
  | 21 => ⟨S2x16x128x16, .bf16⟩
  | 22 => ⟨S8192x128x1, .bf16⟩
  | 23 => ⟨S8192x128x16, .i32⟩
  | 24 => ⟨S_, .i32⟩
  | 25 => ⟨S8192x128x16, .i32⟩
  | 26 => ⟨S8192x128x16, .i32⟩
  | 27 => ⟨S8192x128x16, .bf16⟩
  | 28 => ⟨S_, .bf16⟩
  | 29 => ⟨S8192x128x16, .bf16⟩
  | 30 => ⟨S8192x128x16, .bf16⟩
  | 31 => ⟨S8192x128x16, .bf16⟩
  | 32 => ⟨S8192x128x16, .bf16⟩
  | 33 => ⟨S_, .i32⟩
  | 34 => ⟨S8192x128x16, .i32⟩
  | 35 => ⟨S8192x128x16, .i32⟩
  | 36 => ⟨S8192x128x16, .bf16⟩
  | 37 => ⟨S_, .bf16⟩
  | 38 => ⟨S8192x128x16, .bf16⟩
  | 39 => ⟨S8192x128x16, .bf16⟩
  | 40 => ⟨S8192x128x16, .bf16⟩
  | 41 => ⟨S8192x128x16, .bf16⟩
  | 42 => ⟨S1x8192x128x16, .bf16⟩
  | 43 => ⟨S1x8192x128x16, .bf16⟩
  | 44 => ⟨S2x8192x128x16, .bf16⟩
  | 45 => ⟨S16x8192, .f32⟩
  | 46 => ⟨S16x8192, .f32⟩
  | 47 => ⟨S16x8192, .f32⟩
  | 48 => ⟨S_, .f32⟩
  | 49 => ⟨S16, .f32⟩
  | 50 => ⟨S16x1, .f32⟩
  | 51 => ⟨S_, .f32⟩
  | 52 => ⟨S16x1, .f32⟩
  | 53 => ⟨S16x1, .f32⟩
  | 54 => ⟨S_, .f32⟩
  | 55 => ⟨S16x1, .f32⟩
  | 56 => ⟨S16x1, .f32⟩
  | 57 => ⟨S16x1, .f32⟩
  | 58 => ⟨S16x8192, .f32⟩
  | 59 => ⟨S16x8192, .f32⟩
  | 60 => ⟨S8192, .f32⟩
  | 61 => ⟨S1x8192, .f32⟩
  | 62 => ⟨S16x8192, .f32⟩
  | 63 => ⟨S16x8192, .f32⟩
  | 64 => ⟨S16x8192, .bf16⟩
  | 65 => ⟨S16x256x16x2, .bf16⟩
  | 66 => ⟨S16x256x16x1, .bf16⟩
  | 67 => ⟨S16x256x16, .bf16⟩
  | 68 => ⟨S16x256x16x1, .bf16⟩
  | 69 => ⟨S16x256x16, .bf16⟩
  | 70 => ⟨S1x16x256x16, .bf16⟩
  | 71 => ⟨S1x16x256x16, .bf16⟩
  | 72 => ⟨S2x16x256x16, .bf16⟩
  | 73 => ⟨S14848x256x1, .bf16⟩
  | 74 => ⟨S14848x256x16, .i32⟩
  | 75 => ⟨S_, .i32⟩
  | 76 => ⟨S14848x256x16, .i32⟩
  | 77 => ⟨S14848x256x16, .i32⟩
  | 78 => ⟨S14848x256x16, .bf16⟩
  | 79 => ⟨S_, .bf16⟩
  | 80 => ⟨S14848x256x16, .bf16⟩
  | 81 => ⟨S14848x256x16, .bf16⟩
  | 82 => ⟨S14848x256x16, .bf16⟩
  | 83 => ⟨S14848x256x16, .bf16⟩
  | 84 => ⟨S_, .i32⟩
  | 85 => ⟨S14848x256x16, .i32⟩
  | 86 => ⟨S14848x256x16, .i32⟩
  | 87 => ⟨S14848x256x16, .bf16⟩
  | 88 => ⟨S_, .bf16⟩
  | 89 => ⟨S14848x256x16, .bf16⟩
  | 90 => ⟨S14848x256x16, .bf16⟩
  | 91 => ⟨S14848x256x16, .bf16⟩
  | 92 => ⟨S14848x256x16, .bf16⟩
  | 93 => ⟨S1x14848x256x16, .bf16⟩
  | 94 => ⟨S1x14848x256x16, .bf16⟩
  | 95 => ⟨S2x14848x256x16, .bf16⟩
  | 96 => ⟨S16x14848, .f32⟩
  | 97 => ⟨S16x256x16x2, .bf16⟩
  | 98 => ⟨S16x256x16x1, .bf16⟩
  | 99 => ⟨S16x256x16, .bf16⟩
  | 100 => ⟨S16x256x16x1, .bf16⟩
  | 101 => ⟨S16x256x16, .bf16⟩
  | 102 => ⟨S1x16x256x16, .bf16⟩
  | 103 => ⟨S1x16x256x16, .bf16⟩
  | 104 => ⟨S2x16x256x16, .bf16⟩
  | 105 => ⟨S14848x256x1, .bf16⟩
  | 106 => ⟨S14848x256x16, .i32⟩
  | 107 => ⟨S_, .i32⟩
  | 108 => ⟨S14848x256x16, .i32⟩
  | 109 => ⟨S14848x256x16, .i32⟩
  | 110 => ⟨S14848x256x16, .bf16⟩
  | 111 => ⟨S_, .bf16⟩
  | 112 => ⟨S14848x256x16, .bf16⟩
  | 113 => ⟨S14848x256x16, .bf16⟩
  | 114 => ⟨S14848x256x16, .bf16⟩
  | 115 => ⟨S14848x256x16, .bf16⟩
  | 116 => ⟨S_, .i32⟩
  | 117 => ⟨S14848x256x16, .i32⟩
  | 118 => ⟨S14848x256x16, .i32⟩
  | 119 => ⟨S14848x256x16, .bf16⟩
  | 120 => ⟨S_, .bf16⟩
  | 121 => ⟨S14848x256x16, .bf16⟩
  | 122 => ⟨S14848x256x16, .bf16⟩
  | 123 => ⟨S14848x256x16, .bf16⟩
  | 124 => ⟨S14848x256x16, .bf16⟩
  | 125 => ⟨S1x14848x256x16, .bf16⟩
  | 126 => ⟨S1x14848x256x16, .bf16⟩
  | 127 => ⟨S2x14848x256x16, .bf16⟩
  | _ => ⟨S16x32x128, .bf16⟩

abbrev hbmTy0_1 (i : Nat) : BufTy := match i % 128 with
  | 0 => ⟨S16x14848, .f32⟩
  | 1 => ⟨S16x14848, .f32⟩
  | 2 => ⟨S16x14848, .f32⟩
  | 3 => ⟨S_, .f32⟩
  | 4 => ⟨S16x14848, .f32⟩
  | 5 => ⟨S16x14848, .f32⟩
  | 6 => ⟨S_, .f32⟩
  | 7 => ⟨S16x14848, .f32⟩
  | 8 => ⟨S16x14848, .f32⟩
  | 9 => ⟨S16x14848, .f32⟩
  | 10 => ⟨S16x14848, .f32⟩
  | 11 => ⟨S16x14848, .bf16⟩
  | 12 => ⟨S16x464x16x2, .bf16⟩
  | 13 => ⟨S16x464x16x1, .bf16⟩
  | 14 => ⟨S16x464x16, .bf16⟩
  | 15 => ⟨S16x464x16x1, .bf16⟩
  | 16 => ⟨S16x464x16, .bf16⟩
  | 17 => ⟨S1x16x464x16, .bf16⟩
  | 18 => ⟨S1x16x464x16, .bf16⟩
  | 19 => ⟨S2x16x464x16, .bf16⟩
  | 20 => ⟨S8192x464x1, .bf16⟩
  | 21 => ⟨S8192x464x16, .i32⟩
  | 22 => ⟨S_, .i32⟩
  | 23 => ⟨S8192x464x16, .i32⟩
  | 24 => ⟨S8192x464x16, .i32⟩
  | 25 => ⟨S8192x464x16, .bf16⟩
  | 26 => ⟨S_, .bf16⟩
  | 27 => ⟨S8192x464x16, .bf16⟩
  | 28 => ⟨S8192x464x16, .bf16⟩
  | 29 => ⟨S8192x464x16, .bf16⟩
  | 30 => ⟨S8192x464x16, .bf16⟩
  | 31 => ⟨S_, .i32⟩
  | 32 => ⟨S8192x464x16, .i32⟩
  | 33 => ⟨S8192x464x16, .i32⟩
  | 34 => ⟨S8192x464x16, .bf16⟩
  | 35 => ⟨S_, .bf16⟩
  | 36 => ⟨S8192x464x16, .bf16⟩
  | 37 => ⟨S8192x464x16, .bf16⟩
  | 38 => ⟨S8192x464x16, .bf16⟩
  | 39 => ⟨S8192x464x16, .bf16⟩
  | 40 => ⟨S1x8192x464x16, .bf16⟩
  | 41 => ⟨S1x8192x464x16, .bf16⟩
  | 42 => ⟨S2x8192x464x16, .bf16⟩
  | 43 => ⟨S16x8192, .f32⟩
  | 44 => ⟨S16x8192, .f32⟩
  | 45 => ⟨S16x8192, .bf16⟩
  | 46 => ⟨S16x1x8192, .bf16⟩
  | _ => ⟨S16x32x128, .bf16⟩

abbrev hbmTy (i : Nat) : BufTy := match i / 128 with
  | 0 => hbmTy0_0 i
  | 1 => hbmTy0_1 i
  | _ => ⟨S16x32x128, .bf16⟩

abbrev bufTy : (tb : Table) → Fin (tcTables nBuf tb) → BufTy
  | .hbm, ⟨i, _⟩ => hbmTy i
  | _, _ => ⟨S16x32x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_6 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_7 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_8 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_9 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_10 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_c_11 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_12 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_call0_v0 : Ref sig .tc := ⟨.hbm, 129, rfl⟩
abbrev main_call0_v1 : Ref sig .tc := ⟨.hbm, 130, rfl⟩
abbrev main_call0_cst : Ref sig .tc := ⟨.hbm, 131, rfl⟩
abbrev main_call0_v2 : Ref sig .tc := ⟨.hbm, 132, rfl⟩
abbrev main_call0_v3 : Ref sig .tc := ⟨.hbm, 133, rfl⟩
abbrev main_call0_cst_0 : Ref sig .tc := ⟨.hbm, 134, rfl⟩
abbrev main_call0_v4 : Ref sig .tc := ⟨.hbm, 135, rfl⟩
abbrev main_call0_v5 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_c_13 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_14 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_c_15 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_16 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩

abbrev nD : Nat := 1
abbrev τ : Topo := Topo.v7x

variable {F : FTy → Type} [FloatOps F]
-- ==== KernelNew.lean ====
abbrev S16x1x8192 : Shape := ⟨3, ![16, 1, 8192]⟩
abbrev S8192 : Shape := ⟨1, ![8192]⟩
abbrev S4096x256x16 : Shape := ⟨3, ![4096, 256, 16]⟩
abbrev S4096x256 : Shape := ⟨2, ![4096, 256]⟩
abbrev S512x256x16 : Shape := ⟨3, ![512, 256, 16]⟩
abbrev S512x256 : Shape := ⟨2, ![512, 256]⟩
abbrev S16 : Shape := ⟨1, ![16]⟩
abbrev S16x8192 : Shape := ⟨2, ![16, 8192]⟩
abbrev S16x1 : Shape := ⟨2, ![16, 1]⟩
abbrev S1x8192 : Shape := ⟨2, ![1, 8192]⟩
abbrev S256x256 : Shape := ⟨2, ![256, 256]⟩
abbrev S16x256 : Shape := ⟨2, ![16, 256]⟩
abbrev S4096x16x256 : Shape := ⟨3, ![4096, 16, 256]⟩
abbrev S16x4096 : Shape := ⟨2, ![16, 4096]⟩
abbrev S256x16x128 : Shape := ⟨3, ![256, 16, 128]⟩
abbrev S4096x128 : Shape := ⟨2, ![4096, 128]⟩
abbrev S1024x128 : Shape := ⟨2, ![1024, 128]⟩
abbrev S256x4x128 : Shape := ⟨3, ![256, 4, 128]⟩
abbrev S128x1x128 : Shape := ⟨3, ![128, 1, 128]⟩
abbrev S128x128 : Shape := ⟨2, ![128, 128]⟩
abbrev S128x8x128 : Shape := ⟨3, ![128, 8, 128]⟩
abbrev S8x128 : Shape := ⟨2, ![8, 128]⟩
abbrev S8x1x128 : Shape := ⟨3, ![8, 1, 128]⟩
abbrev S8x8x128 : Shape := ⟨3, ![8, 8, 128]⟩
abbrev S64x128 : Shape := ⟨2, ![64, 128]⟩
abbrev S8192x128 : Shape := ⟨2, ![8192, 128]⟩
abbrev S8192x256 : Shape := ⟨2, ![8192, 256]⟩
abbrev S1x128 : Shape := ⟨2, ![1, 128]⟩
abbrev S16x128 : Shape := ⟨2, ![16, 128]⟩
abbrev S512x16x256 : Shape := ⟨3, ![512, 16, 256]⟩
abbrev S16x512 : Shape := ⟨2, ![16, 512]⟩
abbrev S16x4x128 : Shape := ⟨3, ![16, 4, 128]⟩
abbrev S16x32x128 : Shape := ⟨3, ![16, 32, 128]⟩
abbrev S16x1x4x128 : Shape := ⟨4, ![16, 1, 4, 128]⟩

abbrev nBuf : Space → Nat
  | .hbm => 24
  | .vmem => 33
  | .smem => 0
  | _ => 0

abbrev bufTy : (tb : Table) → Fin (tcTables nBuf tb) → BufTy
  | .hbm, ⟨0, _⟩ => ⟨S16x1x8192, .bf16⟩
  | .hbm, ⟨1, _⟩ => ⟨S8192, .bf16⟩
  | .hbm, ⟨2, _⟩ => ⟨S4096x256x16, .i8⟩
  | .hbm, ⟨3, _⟩ => ⟨S4096x256, .bf16⟩
  | .hbm, ⟨4, _⟩ => ⟨S512x256x16, .i8⟩
  | .hbm, ⟨5, _⟩ => ⟨S512x256, .bf16⟩
  | .hbm, ⟨6, _⟩ => ⟨S512x256x16, .i8⟩
  | .hbm, ⟨7, _⟩ => ⟨S512x256, .bf16⟩
  | .hbm, ⟨8, _⟩ => ⟨S16, .i32⟩
  | .hbm, ⟨9, _⟩ => ⟨S16x8192, .bf16⟩
  | .hbm, ⟨10, _⟩ => ⟨S16x1, .i32⟩
  | .hbm, ⟨11, _⟩ => ⟨S1x8192, .bf16⟩
  | .hbm, ⟨12, _⟩ => ⟨S16x8192, .bf16⟩
  | .hbm, ⟨13, _⟩ => ⟨S4096x16x256, .i8⟩
  | .hbm, ⟨14, _⟩ => ⟨S16x4096, .bf16⟩
  | .hbm, ⟨15, _⟩ => ⟨S512x16x256, .i8⟩
  | .hbm, ⟨16, _⟩ => ⟨S16x512, .bf16⟩
  | .hbm, ⟨17, _⟩ => ⟨S512x16x256, .i8⟩
  | .hbm, ⟨18, _⟩ => ⟨S16x512, .bf16⟩
  | .hbm, ⟨19, _⟩ => ⟨S16x4x128, .bf16⟩
  | .hbm, ⟨20, _⟩ => ⟨S16x4x128, .bf16⟩
  | .hbm, ⟨21, _⟩ => ⟨S16x32x128, .bf16⟩
  | .hbm, ⟨22, _⟩ => ⟨S16x1x4x128, .bf16⟩
  | .hbm, ⟨23, _⟩ => ⟨S16x1x4x128, .bf16⟩
  | .local _ .vmem, ⟨0, _⟩ => ⟨S16x8192, .bf16⟩
  | .local _ .vmem, ⟨1, _⟩ => ⟨S1x8192, .bf16⟩
  | .local _ .vmem, ⟨2, _⟩ => ⟨S16x8192, .bf16⟩
  | .local _ .vmem, ⟨3, _⟩ => ⟨S16x8192, .bf16⟩
  | .local _ .vmem, ⟨4, _⟩ => ⟨S256x16x128, .i8⟩
  | .local _ .vmem, ⟨5, _⟩ => ⟨S256x16x128, .i8⟩
  | .local _ .vmem, ⟨6, _⟩ => ⟨S256x16x128, .i8⟩
  | .local _ .vmem, ⟨7, _⟩ => ⟨S256x16x128, .i8⟩
  | .local _ .vmem, ⟨8, _⟩ => ⟨S256x256, .bf16⟩
  | .local _ .vmem, ⟨9, _⟩ => ⟨S256x256, .bf16⟩
  | .local _ .vmem, ⟨10, _⟩ => ⟨S16x1, .i32⟩
  | .local _ .vmem, ⟨11, _⟩ => ⟨S16x256, .bf16⟩
  | .local _ .vmem, ⟨12, _⟩ => ⟨S16x256, .bf16⟩
  | .local _ .vmem, ⟨13, _⟩ => ⟨S16x8192, .bf16⟩
  | .local _ .vmem, ⟨14, _⟩ => ⟨S256x16x128, .i8⟩
  | .local _ .vmem, ⟨15, _⟩ => ⟨S256x16x128, .i8⟩
  | .local _ .vmem, ⟨16, _⟩ => ⟨S256x16x128, .i8⟩
  | .local _ .vmem, ⟨17, _⟩ => ⟨S256x16x128, .i8⟩
  | .local _ .vmem, ⟨18, _⟩ => ⟨S256x256, .bf16⟩
  | .local _ .vmem, ⟨19, _⟩ => ⟨S256x256, .bf16⟩
  | .local _ .vmem, ⟨20, _⟩ => ⟨S16x1, .i32⟩
  | .local _ .vmem, ⟨21, _⟩ => ⟨S16x256, .bf16⟩
  | .local _ .vmem, ⟨22, _⟩ => ⟨S16x256, .bf16⟩
  | .local _ .vmem, ⟨23, _⟩ => ⟨S16x8192, .bf16⟩
  | .local _ .vmem, ⟨24, _⟩ => ⟨S256x16x128, .i8⟩
  | .local _ .vmem, ⟨25, _⟩ => ⟨S256x16x128, .i8⟩
  | .local _ .vmem, ⟨26, _⟩ => ⟨S256x16x128, .i8⟩
  | .local _ .vmem, ⟨27, _⟩ => ⟨S256x16x128, .i8⟩
  | .local _ .vmem, ⟨28, _⟩ => ⟨S256x256, .bf16⟩
  | .local _ .vmem, ⟨29, _⟩ => ⟨S256x256, .bf16⟩
  | .local _ .vmem, ⟨30, _⟩ => ⟨S16x1, .i32⟩
  | .local _ .vmem, ⟨31, _⟩ => ⟨S16x256, .bf16⟩
  | .local _ .vmem, ⟨32, _⟩ => ⟨S16x256, .bf16⟩
  | _, _ => ⟨S16x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := .none

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S16x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x16x128 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x16x128 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S16x8192 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x16x128 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x16x128 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S16x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S16x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S16x8192 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x16x128 .i8 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x16x128 .i8 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S16x1 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S16x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceNewIdeal.lean ====
abbrev S16x1x8192 : Shape := ⟨3, ![16, 1, 8192]⟩
abbrev S8192 : Shape := ⟨1, ![8192]⟩
abbrev S4096x256x16 : Shape := ⟨3, ![4096, 256, 16]⟩
abbrev S4096x256 : Shape := ⟨2, ![4096, 256]⟩
abbrev S512x256x16 : Shape := ⟨3, ![512, 256, 16]⟩
abbrev S512x256 : Shape := ⟨2, ![512, 256]⟩
abbrev S16 : Shape := ⟨1, ![16]⟩
abbrev S16x8192 : Shape := ⟨2, ![16, 8192]⟩
abbrev S_ : Shape := ⟨0, ![]⟩
abbrev S16x1 : Shape := ⟨2, ![16, 1]⟩
abbrev S1x8192 : Shape := ⟨2, ![1, 8192]⟩
abbrev S16x256x16x2 : Shape := ⟨4, ![16, 256, 16, 2]⟩
abbrev S16x256x16x1 : Shape := ⟨4, ![16, 256, 16, 1]⟩
abbrev S16x256x16 : Shape := ⟨3, ![16, 256, 16]⟩
abbrev S1x16x256x16 : Shape := ⟨4, ![1, 16, 256, 16]⟩
abbrev S2x16x256x16 : Shape := ⟨4, ![2, 16, 256, 16]⟩
abbrev S4096x256x1 : Shape := ⟨3, ![4096, 256, 1]⟩
abbrev S1x4096x256x16 : Shape := ⟨4, ![1, 4096, 256, 16]⟩
abbrev S2x4096x256x16 : Shape := ⟨4, ![2, 4096, 256, 16]⟩
abbrev S16x4096 : Shape := ⟨2, ![16, 4096]⟩
abbrev S16x32x128 : Shape := ⟨3, ![16, 32, 128]⟩
abbrev S512x256x1 : Shape := ⟨3, ![512, 256, 1]⟩
abbrev S1x512x256x16 : Shape := ⟨4, ![1, 512, 256, 16]⟩
abbrev S2x512x256x16 : Shape := ⟨4, ![2, 512, 256, 16]⟩
abbrev S16x512 : Shape := ⟨2, ![16, 512]⟩
abbrev S16x4x128 : Shape := ⟨3, ![16, 4, 128]⟩
abbrev S64 : Shape := ⟨1, ![64]⟩
abbrev S1x64 : Shape := ⟨2, ![1, 64]⟩
abbrev S16x64 : Shape := ⟨2, ![16, 64]⟩
abbrev S16x1x64 : Shape := ⟨3, ![16, 1, 64]⟩
abbrev S16x32x64 : Shape := ⟨3, ![16, 32, 64]⟩
abbrev S16x4x64 : Shape := ⟨3, ![16, 4, 64]⟩
abbrev S16x1x4x128 : Shape := ⟨4, ![16, 1, 4, 128]⟩

abbrev nBuf : Space → Nat
  | .hbm => 195
  | .vmem => 0
  | .smem => 0
  | _ => 0

abbrev hbmTy0_0 (i : Nat) : BufTy := match i % 128 with
  | 0 => ⟨S16x1x8192, .bf16⟩
  | 1 => ⟨S8192, .bf16⟩
  | 2 => ⟨S4096x256x16, .i8⟩
  | 3 => ⟨S4096x256, .bf16⟩
  | 4 => ⟨S512x256x16, .i8⟩
  | 5 => ⟨S512x256, .bf16⟩
  | 6 => ⟨S512x256x16, .i8⟩
  | 7 => ⟨S512x256, .bf16⟩
  | 8 => ⟨S16, .i32⟩
  | 9 => ⟨S16x8192, .bf16⟩
  | 10 => ⟨S16x8192, .f32⟩
  | 11 => ⟨S16x8192, .f32⟩
  | 12 => ⟨S_, .f32⟩
  | 13 => ⟨S16, .f32⟩
  | 14 => ⟨S16x1, .f32⟩
  | 15 => ⟨S_, .f32⟩
  | 16 => ⟨S16x1, .f32⟩
  | 17 => ⟨S16x1, .f32⟩
  | 18 => ⟨S_, .f32⟩
  | 19 => ⟨S16x1, .f32⟩
  | 20 => ⟨S16x1, .f32⟩
  | 21 => ⟨S16x1, .f32⟩
  | 22 => ⟨S16x8192, .f32⟩
  | 23 => ⟨S16x8192, .f32⟩
  | 24 => ⟨S8192, .f32⟩
  | 25 => ⟨S1x8192, .f32⟩
  | 26 => ⟨S16x8192, .f32⟩
  | 27 => ⟨S16x8192, .f32⟩
  | 28 => ⟨S16x8192, .bf16⟩
  | 29 => ⟨S16x256x16x2, .bf16⟩
  | 30 => ⟨S16x256x16x1, .bf16⟩
  | 31 => ⟨S16x256x16, .bf16⟩
  | 32 => ⟨S16x256x16x1, .bf16⟩
  | 33 => ⟨S16x256x16, .bf16⟩
  | 34 => ⟨S1x16x256x16, .bf16⟩
  | 35 => ⟨S1x16x256x16, .bf16⟩
  | 36 => ⟨S2x16x256x16, .bf16⟩
  | 37 => ⟨S4096x256x1, .bf16⟩
  | 38 => ⟨S4096x256x16, .i32⟩
  | 39 => ⟨S_, .i32⟩
  | 40 => ⟨S4096x256x16, .i32⟩
  | 41 => ⟨S4096x256x16, .i32⟩
  | 42 => ⟨S4096x256x16, .bf16⟩
  | 43 => ⟨S_, .bf16⟩
  | 44 => ⟨S4096x256x16, .bf16⟩
  | 45 => ⟨S4096x256x16, .bf16⟩
  | 46 => ⟨S4096x256x16, .bf16⟩
  | 47 => ⟨S4096x256x16, .bf16⟩
  | 48 => ⟨S_, .i32⟩
  | 49 => ⟨S4096x256x16, .i32⟩
  | 50 => ⟨S4096x256x16, .i32⟩
  | 51 => ⟨S4096x256x16, .bf16⟩
  | 52 => ⟨S_, .bf16⟩
  | 53 => ⟨S4096x256x16, .bf16⟩
  | 54 => ⟨S4096x256x16, .bf16⟩
  | 55 => ⟨S4096x256x16, .bf16⟩
  | 56 => ⟨S4096x256x16, .bf16⟩
  | 57 => ⟨S1x4096x256x16, .bf16⟩
  | 58 => ⟨S1x4096x256x16, .bf16⟩
  | 59 => ⟨S2x4096x256x16, .bf16⟩
  | 60 => ⟨S16x4096, .f32⟩
  | 61 => ⟨S16x32x128, .f32⟩
  | 62 => ⟨S16x256x16x2, .bf16⟩
  | 63 => ⟨S16x256x16x1, .bf16⟩
  | 64 => ⟨S16x256x16, .bf16⟩
  | 65 => ⟨S16x256x16x1, .bf16⟩
  | 66 => ⟨S16x256x16, .bf16⟩
  | 67 => ⟨S1x16x256x16, .bf16⟩
  | 68 => ⟨S1x16x256x16, .bf16⟩
  | 69 => ⟨S2x16x256x16, .bf16⟩
  | 70 => ⟨S512x256x1, .bf16⟩
  | 71 => ⟨S512x256x16, .i32⟩
  | 72 => ⟨S_, .i32⟩
  | 73 => ⟨S512x256x16, .i32⟩
  | 74 => ⟨S512x256x16, .i32⟩
  | 75 => ⟨S512x256x16, .bf16⟩
  | 76 => ⟨S_, .bf16⟩
  | 77 => ⟨S512x256x16, .bf16⟩
  | 78 => ⟨S512x256x16, .bf16⟩
  | 79 => ⟨S512x256x16, .bf16⟩
  | 80 => ⟨S512x256x16, .bf16⟩
  | 81 => ⟨S_, .i32⟩
  | 82 => ⟨S512x256x16, .i32⟩
  | 83 => ⟨S512x256x16, .i32⟩
  | 84 => ⟨S512x256x16, .bf16⟩
  | 85 => ⟨S_, .bf16⟩
  | 86 => ⟨S512x256x16, .bf16⟩
  | 87 => ⟨S512x256x16, .bf16⟩
  | 88 => ⟨S512x256x16, .bf16⟩
  | 89 => ⟨S512x256x16, .bf16⟩
  | 90 => ⟨S1x512x256x16, .bf16⟩
  | 91 => ⟨S1x512x256x16, .bf16⟩
  | 92 => ⟨S2x512x256x16, .bf16⟩
  | 93 => ⟨S16x512, .f32⟩
  | 94 => ⟨S16x4x128, .f32⟩
  | 95 => ⟨S16x256x16x2, .bf16⟩
  | 96 => ⟨S16x256x16x1, .bf16⟩
  | 97 => ⟨S16x256x16, .bf16⟩
  | 98 => ⟨S16x256x16x1, .bf16⟩
  | 99 => ⟨S16x256x16, .bf16⟩
  | 100 => ⟨S1x16x256x16, .bf16⟩
  | 101 => ⟨S1x16x256x16, .bf16⟩
  | 102 => ⟨S2x16x256x16, .bf16⟩
  | 103 => ⟨S512x256x1, .bf16⟩
  | 104 => ⟨S512x256x16, .i32⟩
  | 105 => ⟨S_, .i32⟩
  | 106 => ⟨S512x256x16, .i32⟩
  | 107 => ⟨S512x256x16, .i32⟩
  | 108 => ⟨S512x256x16, .bf16⟩
  | 109 => ⟨S_, .bf16⟩
  | 110 => ⟨S512x256x16, .bf16⟩
  | 111 => ⟨S512x256x16, .bf16⟩
  | 112 => ⟨S512x256x16, .bf16⟩
  | 113 => ⟨S512x256x16, .bf16⟩
  | 114 => ⟨S_, .i32⟩
  | 115 => ⟨S512x256x16, .i32⟩
  | 116 => ⟨S512x256x16, .i32⟩
  | 117 => ⟨S512x256x16, .bf16⟩
  | 118 => ⟨S_, .bf16⟩
  | 119 => ⟨S512x256x16, .bf16⟩
  | 120 => ⟨S512x256x16, .bf16⟩
  | 121 => ⟨S512x256x16, .bf16⟩
  | 122 => ⟨S512x256x16, .bf16⟩
  | 123 => ⟨S1x512x256x16, .bf16⟩
  | 124 => ⟨S1x512x256x16, .bf16⟩
  | 125 => ⟨S2x512x256x16, .bf16⟩
  | 126 => ⟨S16x512, .f32⟩
  | 127 => ⟨S16x4x128, .f32⟩
  | _ => ⟨S16x1x8192, .bf16⟩

abbrev hbmTy0_1 (i : Nat) : BufTy := match i % 128 with
  | 0 => ⟨S16x4x128, .bf16⟩
  | 1 => ⟨S64, .f32⟩
  | 2 => ⟨S_, .f32⟩
  | 3 => ⟨S64, .f32⟩
  | 4 => ⟨S64, .f32⟩
  | 5 => ⟨S64, .f32⟩
  | 6 => ⟨S_, .f32⟩
  | 7 => ⟨S64, .f32⟩
  | 8 => ⟨S64, .f32⟩
  | 9 => ⟨S16, .f32⟩
  | 10 => ⟨S16x1, .f32⟩
  | 11 => ⟨S1x64, .f32⟩
  | 12 => ⟨S16x64, .f32⟩
  | 13 => ⟨S16x64, .f32⟩
  | 14 => ⟨S16x64, .f32⟩
  | 15 => ⟨S16x64, .f32⟩
  | 16 => ⟨S16x1x64, .f32⟩
  | 17 => ⟨S16x64, .f32⟩
  | 18 => ⟨S16x1x64, .f32⟩
  | 19 => ⟨S16x32x64, .f32⟩
  | 20 => ⟨S16x32x64, .f32⟩
  | 21 => ⟨S16x32x64, .f32⟩
  | 22 => ⟨S16x32x64, .f32⟩
  | 23 => ⟨S16x32x64, .f32⟩
  | 24 => ⟨S16x32x64, .f32⟩
  | 25 => ⟨S16x32x64, .f32⟩
  | 26 => ⟨S16x32x64, .f32⟩
  | 27 => ⟨S16x32x64, .f32⟩
  | 28 => ⟨S16x32x64, .f32⟩
  | 29 => ⟨S16x32x64, .f32⟩
  | 30 => ⟨S16x32x64, .f32⟩
  | 31 => ⟨S16x32x128, .f32⟩
  | 32 => ⟨S16x32x128, .bf16⟩
  | 33 => ⟨S64, .f32⟩
  | 34 => ⟨S_, .f32⟩
  | 35 => ⟨S64, .f32⟩
  | 36 => ⟨S64, .f32⟩
  | 37 => ⟨S64, .f32⟩
  | 38 => ⟨S_, .f32⟩
  | 39 => ⟨S64, .f32⟩
  | 40 => ⟨S64, .f32⟩
  | 41 => ⟨S16, .f32⟩
  | 42 => ⟨S16x1, .f32⟩
  | 43 => ⟨S1x64, .f32⟩
  | 44 => ⟨S16x64, .f32⟩
  | 45 => ⟨S16x64, .f32⟩
  | 46 => ⟨S16x64, .f32⟩
  | 47 => ⟨S16x64, .f32⟩
  | 48 => ⟨S16x1x64, .f32⟩
  | 49 => ⟨S16x64, .f32⟩
  | 50 => ⟨S16x1x64, .f32⟩
  | 51 => ⟨S16x4x64, .f32⟩
  | 52 => ⟨S16x4x64, .f32⟩
  | 53 => ⟨S16x4x64, .f32⟩
  | 54 => ⟨S16x4x64, .f32⟩
  | 55 => ⟨S16x4x64, .f32⟩
  | 56 => ⟨S16x4x64, .f32⟩
  | 57 => ⟨S16x4x64, .f32⟩
  | 58 => ⟨S16x4x64, .f32⟩
  | 59 => ⟨S16x4x64, .f32⟩
  | 60 => ⟨S16x4x64, .f32⟩
  | 61 => ⟨S16x4x64, .f32⟩
  | 62 => ⟨S16x4x64, .f32⟩
  | 63 => ⟨S16x4x128, .f32⟩
  | 64 => ⟨S16x4x128, .bf16⟩
  | 65 => ⟨S16x1x4x128, .bf16⟩
  | 66 => ⟨S16x1x4x128, .bf16⟩
  | _ => ⟨S16x1x8192, .bf16⟩

abbrev hbmTy (i : Nat) : BufTy := match i / 128 with
  | 0 => hbmTy0_0 i
  | 1 => hbmTy0_1 i
  | _ => ⟨S16x1x8192, .bf16⟩

abbrev bufTy : (tb : Table) → Fin (tcTables nBuf tb) → BufTy
  | .hbm, ⟨i, _⟩ => hbmTy i
  | _, _ => ⟨S16x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_7 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c_9 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_10 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_c_11 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_12 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_13 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_14 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_15 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_16 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩

abbrev nD : Nat := 1
abbrev τ : Topo := Topo.v7x

variable {F : FTy → Type} [FloatOps F]
-- ==== Proof.Run.lean ====
/-
  The kernel's run, with what its result array holds at the end.
-/
module

public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array beside the arguments: it ends at the last boundary's contents. -/
theorem run_result : θ_run defs (onTc (τ := τ) (main (F := F))) ⟨m, fun _ => 0, ρ⟩ (fun r => ∀ c : Dev nD,
      r.2.mem ((c.tc : Thread nD τ).loc main_v13) = W11 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => fun c =>
      ⟨h c _ (mem_uc main_v13 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Gen

end
-- ==== Proof.Nibble.lean ====
/-
  The integer side of the four-bit weights: the kernel flips the top bit of every nibble of a 32-bit word and reads the
  nibble with its sign; the reference masks or shifts the byte and subtracts 8. Both are the same number.
-/
module

public import Idealize.ShloMosaic.Lib.BitcastFour
public import Idealize.ShloMosaic.Lib.Pointwise

@[expose] public section

namespace Cert.Proof.Q4

open Idealize.ShloMosaic

/-- The four-bit code number `p` (0: low half, 1: high half) of a byte, minus the offset 8. -/
def code (b : BitVec 8) (p : Nat) : ℤ := ((b.toNat / 16 ^ p % 16 : Nat) : ℤ) - 8

/-- Two words with the same top four bits are the same after an arithmetic shift right by 28. -/
theorem sshift_congr (x y : BitVec 32) (h : ∀ j, j < 4 → x.getLsbD (28 + j) = y.getLsbD (28 + j)) :
    x.sshiftRight' 28#32 = y.sshiftRight' 28#32 := by
  apply BitVec.eq_of_getLsbD_eq
  intro i hi
  simp only [BitVec.sshiftRight', BitVec.toNat_ofNat, BitVec.getLsbD_sshiftRight, BitVec.msb_eq_getLsbD_last]
  norm_num
  by_cases h4 : i < 4
  · simp only [show 28 + i < 32 by omega, if_true]
    rw [h i h4]
  · simp only [show ¬ (28 + i < 32) by omega, if_false]
    have := h 3 (by omega)
    simp at this
    rw [this]

/-- A nibble with its top bit flipped, moved to the top of a word and shifted back with its sign, is the nibble minus 8. -/
theorem signed_nibble (v : BitVec 4) :
    (((v ^^^ 8#4).setWidth 32 <<< 28).sshiftRight' 28#32).toInt = (v.toNat : ℤ) - 8 := by
  revert v; decide

/-- Nibble `p` of a byte as four bits has the value that `code` takes 8 from. -/
theorem nibble_toNat (b : BitVec 8) (p : Nat) (hp : p < 2) :
    (((b >>> (4 * p)).setWidth 4).toNat : ℤ) - 8 = code b p := by
  unfold code
  rw [BitVec.toNat_setWidth, BitVec.toNat_ushiftRight, Nat.shiftRight_eq_div_pow, pow_mul]
  norm_num

/-- The kernel's unpacking of nibble `n` of a word whose byte `n / 2` is `b`: flip the nibbles' top bits, move nibble `n`
    to the top, shift it back with its sign. -/
theorem unpack_toInt (w : BitVec 32) (n : Nat) (hn : n < 8) (b : BitVec 8)
    (hb : ∀ q, q < 8 → w.getLsbD (8 * (n / 2) + q) = b.getLsbD q) :
    (IntOp.shrsi .vector (IntOp.shli .vector (w ^^^ 2290649224#32) (BitVec.ofNat 32 (28 - 4 * n))) 28#32).toInt
      = code b (n % 2) := by
  have key : ∀ j, j < 4 → ((w ^^^ 2290649224#32) <<< (28 - 4 * n)).getLsbD (28 + j)
      = ((((b >>> (4 * (n % 2))).setWidth 4) ^^^ 8#4).setWidth 32 <<< 28).getLsbD (28 + j) := by
    intro j hj
    have hw : w.getLsbD (4 * n + j) = b.getLsbD (4 * (n % 2) + j) := by
      rw [← hb (4 * (n % 2) + j) (by omega)]; congr 1; omega
    have hB : (2290649224#32).getLsbD (4 * n + j) = (8#4).getLsbD j := by
      interval_cases n <;> interval_cases j <;> rfl
    have e1 : 28 + j - (28 - 4 * n) = 4 * n + j := by omega
    have e2 : 28 + j - 28 = j := by omega
    have l1 : ¬ (28 + j < 28 - 4 * n) := by omega
    have l2 : ¬ (28 + j < 28) := by omega
    simp only [BitVec.getLsbD_shiftLeft, BitVec.getLsbD_xor, BitVec.getLsbD_setWidth, BitVec.getLsbD_ushiftRight, e1, e2, hw, hB,
      l1, l2, show 28 + j < 32 by omega, show j < 32 by omega, hj, decide_true, decide_false, Bool.true_and, Bool.not_false]
  have sh : ((w ^^^ 2290649224#32) <<< (28 - 4 * n)).sshiftRight' 28#32
      = ((((b >>> (4 * (n % 2))).setWidth 4) ^^^ 8#4).setWidth 32 <<< 28).sshiftRight' 28#32 := by
    exact sshift_congr _ _ key
  have h1 : (BitVec.ofNat 32 (28 - 4 * n)).toNat = 28 - 4 * n := by
    rw [BitVec.toNat_ofNat]; omega
  unfold IntOp.shrsi IntOp.shli
  rw [if_pos (by decide), if_pos (by rw [h1]; omega)]
  rw [BitVec.shiftLeft_eq', h1, sh, signed_nibble, nibble_toNat b _ (Nat.mod_lt _ (by omega))]

/-- The reference's low half: the byte widened with zeros, its low four bits kept. -/
theorem low_toInt (b : BitVec 8) : ((IntOp.andi (b.setWidth 32) 15#32).toInt : ℤ) - 8 = code b 0 := by
  revert b; decide

/-- The reference's high half: the byte widened with zeros, shifted right by four. -/
theorem high_toInt (b : BitVec 8) : ((IntOp.shrsi .host (b.setWidth 32) 4#32).toInt : ℤ) - 8 = code b 1 := by
  revert b; decide

end Cert.Proof.Q4
-- ==== Proof.Weights.lean ====
/-
  What a tile of unpacked weights holds. The kernel turns a block of packed bytes into 32-bit words, takes the words of 128
  output columns, unpacks the eight nibbles of each word along the rows and multiplies 64-row pieces of the result by the
  block scales; a column block of the weight matrix is the concatenation of such pieces.
-/
module

public import proofs.«01_k».proof.Proof.Nibble
public import Idealize.ShloMosaic.Lib.Pipeline.Value
public import Idealize.ShloMosaic.Lib.IdealHost

@[expose] public section

noncomputable section

namespace Cert.Proof.Q4

open Idealize.ShloMosaic

abbrev S8x128 : Shape := ⟨2, ![8, 128]⟩
abbrev S64x128 : Shape := ⟨2, ![64, 128]⟩
abbrev S128x128 : Shape := ⟨2, ![128, 128]⟩
abbrev S1024x128 : Shape := ⟨2, ![1024, 128]⟩
abbrev S2048x128 : Shape := ⟨2, ![2048, 128]⟩
abbrev S4096x128 : Shape := ⟨2, ![4096, 128]⟩
abbrev S8192x128 : Shape := ⟨2, ![8192, 128]⟩
abbrev S8x1x128 : Shape := ⟨3, ![8, 1, 128]⟩
abbrev S8x8x128 : Shape := ⟨3, ![8, 8, 128]⟩
abbrev S128x1x128 : Shape := ⟨3, ![128, 1, 128]⟩
abbrev S128x8x128 : Shape := ⟨3, ![128, 8, 128]⟩
abbrev S256x4x128 : Shape := ⟨3, ![256, 4, 128]⟩
abbrev S512x4x128 : Shape := ⟨3, ![512, 4, 128]⟩
abbrev S256x16x128 : Shape := ⟨3, ![256, 16, 128]⟩
abbrev S512x16x128 : Shape := ⟨3, ![512, 16, 128]⟩

variable {F : FTy → Type} [FloatOps F]

/-- The words of a block of 256 output columns: byte `b` of word `(n, jw, lane)` is row `4 jw + b` of column `n`. -/
def words256 (v : IVec S256x16x128 8) : IVec S256x4x128 32 :=
  shapeCast S256x4x128 (bitcast S1024x128 32 (shapeCast S4096x128 (shapeCast S256x16x128 v (by decide)) (by decide)) (by decide)) (by decide)

/-- The words of a block of 512 output columns. -/
def words512 (v : IVec S512x16x128 8) : IVec S512x4x128 32 :=
  shapeCast S512x4x128 (bitcast S2048x128 32 (shapeCast S8192x128 (shapeCast S512x16x128 v (by decide)) (by decide)) (by decide)) (by decide)

/-- The eight nibbles of each word of a 128 × 128 tile, laid along the rows. -/
def unpackTile (x : IVec S128x1x128 32) : IVec S1024x128 32 :=
  shapeCast S1024x128
    (shrsi
      (shli
        (broadcastTo S128x8x128 (shapeCast S128x1x128 (shapeCast S128x1x128
          (transpose S128x128 [1, 0] (xori (shapeCast S128x128 x (by decide)) (broadcast S128x128 2290649224#32)) (by decide))
          (by decide)) (by decide)) (by decide))
        (subi (broadcast S128x8x128 28#32) (muli (broadcast S128x8x128 4#32) (iota .tc S128x8x128 32 [1] (by decide)))))
      (broadcast S128x8x128 28#32))
    (by decide)

/-- Eight rows of scales, each repeated eight times. -/
def scaleRows (s : FVec F S8x128 .f32) : FVec F S64x128 .bf16 :=
  truncf .bf16 (shapeCast S64x128 (broadcastTo S8x8x128 (shapeCast S8x1x128 (shapeCast S8x1x128 s (by decide)) (by decide)) (by decide))
    (by decide)) (by decide)

theorem slices_tile (g : Fin 16) : S1024x128.Slices ![64 * g.val, 0] S64x128 :=
  ⟨rfl, fun a => by match a with
    | ⟨0, _⟩ => show 64 * g.val + 64 ≤ 1024; omega
    | ⟨1, _⟩ => show 0 + 128 ≤ 128; omega⟩

theorem slices_scale (g : Fin 16) : S128x128.Slices ![8 * g.val, 0] S8x128 :=
  ⟨rfl, fun a => by match a with
    | ⟨0, _⟩ => show 8 * g.val + 8 ≤ 128; omega
    | ⟨1, _⟩ => show 0 + 128 ≤ 128; omega⟩

/-- One 64-row piece of a weight tile: rows `64 g …` of the unpacked nibbles times their scales. -/
def piece (q : IVec S1024x128 32) (s : FVec F S128x128 .f32) (g : Fin 16) : FVec F S64x128 .bf16 :=
  mulf (sitofp .bf16 (extractStridedSlice S64x128 ![64 * g.val, 0] q (slices_tile g)))
    (scaleRows (extractStridedSlice S8x128 ![8 * g.val, 0] s (slices_scale g)))

/-- The words unpacked: a bit of word `(n, jw, lane)`. -/
theorem words256_getLsbD (v : IVec S256x16x128 8) (n : Fin 256) (jw : Fin 4) (lane : Fin 128) (b : Fin 4) (q : Nat) (hq : q < 8) :
    (words256 v (ix3 n jw lane)).getLsbD (8 * b.val + q) = (v (ix3 n ⟨4 * jw.val + b.val, by omega⟩ lane)).getLsbD q := by
  pointwise [words256]
  refine (bitcast_8_32_getLsbD_ix2 _ _ _ lane (8 * b.val + q) (by omega) ⟨4 * (n.val * 4 + jw.val) + b.val, by omega⟩
    (by show 4 * (n.val * 4 + jw.val) + b.val = 4 * (n.val * 4 + jw.val) + (8 * b.val + q) / 8; omega)).trans ?_
  rw [show (8 * b.val + q) % 8 = q by omega]
  congr 1
  pointwise
  exact congrArg v (by congr 1 <;> apply Fin.ext <;> simp <;> omega)

theorem words512_getLsbD (v : IVec S512x16x128 8) (n : Fin 512) (jw : Fin 4) (lane : Fin 128) (b : Fin 4) (q : Nat) (hq : q < 8) :
    (words512 v (ix3 n jw lane)).getLsbD (8 * b.val + q) = (v (ix3 n ⟨4 * jw.val + b.val, by omega⟩ lane)).getLsbD q := by
  pointwise [words512]
  refine (bitcast_8_32_getLsbD_ix2 _ _ _ lane (8 * b.val + q) (by omega) ⟨4 * (n.val * 4 + jw.val) + b.val, by omega⟩
    (by show 4 * (n.val * 4 + jw.val) + b.val = 4 * (n.val * 4 + jw.val) + (8 * b.val + q) / 8; omega)).trans ?_
  rw [show (8 * b.val + q) % 8 = q by omega]
  congr 1
  pointwise
  exact congrArg v (by congr 1 <;> apply Fin.ext <;> simp <;> omega)

theorem nibble_shift (k : Nat) (hk : k < 8) :
    IntOp.subi (28#32) (IntOp.muli (4#32) (BitVec.ofNat 32 k)) = BitVec.ofNat 32 (28 - 4 * k) := by
  interval_cases k <;> rfl

theorem unpackTile_toInt (x : IVec S128x1x128 32) (r : Fin 1024) (c : Fin 128) (b : BitVec 8)
    (hb : ∀ q, q < 8 → (x (ix3 c 0 ⟨r.val / 8, by omega⟩)).getLsbD (8 * (r.val % 8 / 2) + q) = b.getLsbD q) :
    (unpackTile x (ix2 r c)).toInt = code b (r.val % 2) := by
  pointwise [unpackTile]
  have hn : r.val % 8 < 8 := by omega
  have := unpack_toInt (x (ix3 c 0 ⟨r.val / 8, by omega⟩)) (r.val % 8) hn b hb
  rw [show r.val % 8 % 2 = r.val % 2 by omega] at this
  rw [← this]
  have e : IntOp.subi (28#32) (IntOp.muli (4#32) (BitVec.ofNat 32 (r.val % 8))) = BitVec.ofNat 32 (28 - 4 * (r.val % 8)) := by
    exact nibble_shift _ hn
  rw [e]
  rfl

theorem piece_apply (q : IVec S1024x128 32) (s : FVec Ideal S128x128 .f32) (g : Fin 16) (r : Fin 64) (c : Fin 128) :
    piece q s g (ix2 r c) = (((q (ix2 ⟨64 * g.val + r.val, by omega⟩ c)).toInt : ℝ) : EReal) * s (ix2 ⟨8 * g.val + r.val / 8, by omega⟩ c) := by
  pointwise [piece, scaleRows]
  rfl

/-- A column of weight pieces: `N` pieces of 64 rows one under the other. -/
def column {α : Type} (N R : Nat) (p : Fin N → (S64x128.Idx → α))
    (h : Shape.Concatenates ((List.ofFn fun n : Fin N => (⟨S64x128, p n⟩ : (s : Shape) × (s.Idx → α))).map (·.1)) ⟨2, ![R, 128]⟩ 0) :
    (⟨2, ![R, 128]⟩ : Shape).Idx → α :=
  concatenate ⟨2, ![R, 128]⟩ 0 (List.ofFn fun n : Fin N => (⟨S64x128, p n⟩ : (s : Shape) × (s.Idx → α))) h

/-- Row `K` of a column is row `K % 64` of its piece `K / 64`. -/
theorem column_apply {α : Type} (N R : Nat) (p : Fin N → (S64x128.Idx → α)) (h) (K : Fin R) (c : Fin 128) (hN : K.val / 64 < N) :
    column N R p h (ix2 K c) = p ⟨K.val / 64, hN⟩ (ix2 ⟨K.val % 64, by omega⟩ c) := by
  refine concatenate_ofFn_apply (t := ⟨2, ![R, 128]⟩) (s₁ := S64x128) (0 : Fin 2) p h rfl 64 rfl (ix2 K c) ⟨K.val / 64, hN⟩ rfl (ix2 ⟨K.val % 64, by omega⟩ c) rfl ?_
  intro b hb
  match b with
  | ⟨0, _⟩ => exact absurd rfl hb
  | ⟨1, _⟩ => rfl

theorem concat_ok (N R : Nat) (hN : 2 ≤ N) (hR : 64 * N = R) {α : Type} (p : Fin N → (S64x128.Idx → α)) :
    Shape.Concatenates ((List.ofFn fun n : Fin N => (⟨S64x128, p n⟩ : (s : Shape) × (s.Idx → α))).map (·.1)) ⟨2, ![R, 128]⟩ 0 := by
  have e : (List.ofFn fun n : Fin N => (⟨S64x128, p n⟩ : (s : Shape) × (s.Idx → α))).map (·.1) = List.replicate N S64x128 := by
    simp [List.map_ofFn, Function.comp_def, List.ofFn_const]
  rw [e]
  refine ⟨by simpa using hN, ?_, ?_⟩
  · intro s hs
    obtain rfl := (List.mem_replicate.1 hs).2
    exact ⟨rfl, fun b hb => by
      match b with
      | ⟨0, _⟩ => exact absurd rfl hb
      | ⟨1, _⟩ => rfl⟩
  · simp [← hR, Nat.mul_comm]

end Cert.Proof.Q4
-- ==== Proof.Linear.lean ====
/-
  A four-bit linear layer, as plain mathematics: the weight of output `n` and input `k`, the layer as a sum over the inputs, and
  the three-axis contraction of the reference as that sum.
-/
module

public import proofs.«01_k».proof.Proof.Weights

@[expose] public section

noncomputable section

namespace Cert.Proof.Q4

open Idealize.ShloMosaic

/-- The weight of output `n` and input `k`: the code of input `k` (byte `k % 32 / 2` of group `k / 32`, its low half when `k` is
    even and its high half when odd), minus 8, times the group's scale. -/
def wt {N G : Nat} (codes : (⟨3, ![N, G, 16]⟩ : Shape).Idx → BitVec 8) (s : (⟨2, ![N, G]⟩ : Shape).Idx → EReal)
    {K : Nat} (hK : K = 32 * G) (n : Fin N) (k : Fin K) : EReal :=
  ((code (codes (ix3 n ⟨k.val / 32, by omega⟩ ⟨k.val % 32 / 2, by omega⟩)) (k.val % 2) : ℝ) : EReal) * s (ix2 n ⟨k.val / 32, by omega⟩)

/-- A four-bit linear layer: row `m`, output `n`. -/
def lin {N G : Nat} (codes : (⟨3, ![N, G, 16]⟩ : Shape).Idx → BitVec 8) (s : (⟨2, ![N, G]⟩ : Shape).Idx → EReal)
    {K : Nat} (hK : K = 32 * G) (a : (⟨2, ![16, K]⟩ : Shape).Idx → EReal) (m : Fin 16) (n : Fin N) : EReal :=
  ∑ k : Fin K, a (ix2 m k) * wt codes s hK n k

/-- The reference's dimension numbers: parity, group and byte are contracted. -/
abbrev pairDims (N G : Nat)
    (wf : DotDims.WF ⟨4, ![2, 16, G, 16]⟩ ⟨4, ![2, N, G, 16]⟩ ⟨2, ![16, N]⟩ [2, 3, 0] [2, 3, 0] [1] [1] [] []) : DotDims ⟨4, ![2, 16, G, 16]⟩ ⟨4, ![2, N, G, 16]⟩ ⟨2, ![16, N]⟩ where
  lhsContracting := [2, 3, 0]
  rhsContracting := [2, 3, 0]
  lhsNonContracting := [1]
  rhsNonContracting := [1]
  lhsBatch := []
  rhsBatch := []
  wf := wf

/-- Group, byte and parity of input `k`. -/
def pairIdx {N G : Nat} (wf) {K : Nat} (hK : K = 32 * G) (k : Fin K) : (pairDims N G wf).contr.Idx := fun p =>
  match p with
  | ⟨0, _⟩ => (⟨k.val / 32, by omega⟩ : Fin G)
  | ⟨1, _⟩ => (⟨k.val % 32 / 2, by omega⟩ : Fin 16)
  | ⟨2, _⟩ => (⟨k.val % 2, by omega⟩ : Fin 2)

/-- The inputs are the triples of a group, a byte and a parity. -/
def pairEquiv {N G : Nat} (wf) {K : Nat} (hK : K = 32 * G) : Fin K ≃ (pairDims N G wf).contr.Idx where
  toFun := pairIdx wf hK
  invFun i :=
    have h0 : (i ⟨0, (by omega : 0 < 3)⟩ : Nat) < G := (i ⟨0, (by omega : 0 < 3)⟩).isLt
    have h1 : (i ⟨1, (by omega : 1 < 3)⟩ : Nat) < 16 := (i ⟨1, (by omega : 1 < 3)⟩).isLt
    have h2 : (i ⟨2, (by omega : 2 < 3)⟩ : Nat) < 2 := (i ⟨2, (by omega : 2 < 3)⟩).isLt
    ⟨(i ⟨0, (by omega : 0 < 3)⟩ : Nat) * 32 + (i ⟨1, (by omega : 1 < 3)⟩ : Nat) * 2 + (i ⟨2, (by omega : 2 < 3)⟩ : Nat), by omega⟩
  left_inv k := Fin.ext (by show k.val / 32 * 32 + k.val % 32 / 2 * 2 + k.val % 2 = k.val; omega)
  right_inv i := by
    have h0 : (i ⟨0, (by omega : 0 < 3)⟩ : Nat) < G := (i ⟨0, (by omega : 0 < 3)⟩).isLt
    have h1 : (i ⟨1, (by omega : 1 < 3)⟩ : Nat) < 16 := (i ⟨1, (by omega : 1 < 3)⟩).isLt
    have h2 : (i ⟨2, (by omega : 2 < 3)⟩ : Nat) < 2 := (i ⟨2, (by omega : 2 < 3)⟩).isLt
    funext p
    match p with
    | ⟨0, _⟩ => exact Fin.ext (by show ((i ⟨0, (by omega : 0 < 3)⟩ : Nat) * 32 + (i ⟨1, (by omega : 1 < 3)⟩ : Nat) * 2 + (i ⟨2, (by omega : 2 < 3)⟩ : Nat)) / 32 = (i ⟨0, (by omega : 0 < 3)⟩ : Nat); omega)
    | ⟨1, _⟩ => exact Fin.ext (by show ((i ⟨0, (by omega : 0 < 3)⟩ : Nat) * 32 + (i ⟨1, (by omega : 1 < 3)⟩ : Nat) * 2 + (i ⟨2, (by omega : 2 < 3)⟩ : Nat)) % 32 / 2 = (i ⟨1, (by omega : 1 < 3)⟩ : Nat); omega)
    | ⟨2, _⟩ => exact Fin.ext (by show ((i ⟨0, (by omega : 0 < 3)⟩ : Nat) * 32 + (i ⟨1, (by omega : 1 < 3)⟩ : Nat) * 2 + (i ⟨2, (by omega : 2 < 3)⟩ : Nat)) % 2 = (i ⟨2, (by omega : 2 < 3)⟩ : Nat); omega)

theorem pair_lhsIdx {N G : Nat} (wf) {K : Nat} (hK : K = 32 * G) (m : Fin 16) (n : Fin N) (k : Fin K) :
    (pairDims N G wf).lhsIdx (ix2 m n) (pairIdx wf hK k) = ix4 ⟨k.val % 2, by omega⟩ m ⟨k.val / 32, by omega⟩ ⟨k.val % 32 / 2, by omega⟩ := by
  funext a
  match a with
  | ⟨0, _⟩ => rfl
  | ⟨1, _⟩ => rfl
  | ⟨2, _⟩ => rfl
  | ⟨3, _⟩ => rfl

theorem pair_rhsIdx {N G : Nat} (wf) {K : Nat} (hK : K = 32 * G) (m : Fin 16) (n : Fin N) (k : Fin K) :
    (pairDims N G wf).rhsIdx (ix2 m n) (pairIdx wf hK k) = ix4 ⟨k.val % 2, by omega⟩ n ⟨k.val / 32, by omega⟩ ⟨k.val % 32 / 2, by omega⟩ := by
  funext a
  match a with
  | ⟨0, _⟩ => rfl
  | ⟨1, _⟩ => rfl
  | ⟨2, _⟩ => rfl
  | ⟨3, _⟩ => rfl

/-- The reference's contraction over parity, group and byte is the linear layer, once its operands are the input and the weight
    at each input. -/
theorem pair_dot {N G : Nat} (wf) {K : Nat} (hK : K = 32 * G) (L : FVec Ideal ⟨4, ![2, 16, G, 16]⟩ .bf16) (R : FVec Ideal ⟨4, ![2, N, G, 16]⟩ .bf16)
    (codes : (⟨3, ![N, G, 16]⟩ : Shape).Idx → BitVec 8) (s : (⟨2, ![N, G]⟩ : Shape).Idx → EReal) (a : (⟨2, ![16, K]⟩ : Shape).Idx → EReal)
    (m : Fin 16) (n : Fin N)
    (hL : ∀ k : Fin K, L (ix4 ⟨k.val % 2, by omega⟩ m ⟨k.val / 32, by omega⟩ ⟨k.val % 32 / 2, by omega⟩) = a (ix2 m k))
    (hR : ∀ k : Fin K, R (ix4 ⟨k.val % 2, by omega⟩ n ⟨k.val / 32, by omega⟩ ⟨k.val % 32 / 2, by omega⟩) = wt codes s hK n k) :
    (Host.dotGeneral (pairDims N G wf) none L R : FVec Ideal ⟨2, ![16, N]⟩ .f32) (ix2 m n) = lin codes s hK a m n := by
  have e : (Host.dotGeneral (pairDims N G wf) none L R : FVec Ideal ⟨2, ![16, N]⟩ .f32) (ix2 m n)
      = 0 + ∑ kk : (pairDims N G wf).contr.Idx, L ((pairDims N G wf).lhsIdx (ix2 m n) kk) * R ((pairDims N G wf).rhsIdx (ix2 m n) kk) := rfl
  rw [e, zero_add, lin]
  refine (Fintype.sum_equiv (pairEquiv wf hK) _ _ fun k => ?_).symm
  show _ = L ((pairDims N G wf).lhsIdx (ix2 m n) (pairIdx wf hK k)) * R ((pairDims N G wf).rhsIdx (ix2 m n) (pairIdx wf hK k))
  rw [pair_lhsIdx, pair_rhsIdx, hL, hR]

end Cert.Proof.Q4
-- ==== Proof.Perm.lean ====
/-
  The kernel's reordering of the input columns. Within every 4096 columns a product by a 0/1 matrix on each block of 256
  columns puts natural column `(g * 32 + 8 jw + nib)` where the unpacked weights have it.
-/
module

public import proofs.«01_k».proof.Proof.Linear
public import Idealize.ShloMosaic.Lib.MatmulPlain

@[expose] public section

noncomputable section

namespace Cert.Proof.Q4

open Idealize.ShloMosaic

abbrev S256x256 : Shape := ⟨2, ![256, 256]⟩
abbrev S16x256 : Shape := ⟨2, ![16, 256]⟩

/-- The natural input that sits at place `K` of the kernel's order. -/
def nat (K : Nat) : Nat := K / 256 * 256 + K % 64 / 8 * 32 + K % 256 / 64 * 8 + K % 8

/-- The place of natural input `k` in the kernel's order. -/
def place (k : Nat) : Nat := k / 256 * 256 + k % 32 / 8 * 64 + k % 256 / 32 * 8 + k % 8

theorem nat_lt {T K : Nat} (hT : T % 256 = 0) (h : K < T) : nat K < T := by unfold nat; omega
theorem place_lt {T K : Nat} (hT : T % 256 = 0) (h : K < T) : place K < T := by unfold place; omega
theorem nat_digits (A j g n : Nat) (hj : j < 4) (hg : g < 8) (hn : n < 8) : nat (256 * A + 64 * j + 8 * g + n) = 256 * A + 32 * g + 8 * j + n := by
  unfold nat; omega
theorem place_digits (A j g n : Nat) (hj : j < 4) (hg : g < 8) (hn : n < 8) : place (256 * A + 32 * g + 8 * j + n) = 256 * A + 64 * j + 8 * g + n := by
  unfold place; omega
theorem place_nat (K : Nat) : place (nat K) = K := by
  have e : K = 256 * (K / 256) + 64 * (K / 64 % 4) + 8 * (K / 8 % 8) + K % 8 := by omega
  rw [e, nat_digits _ _ _ _ (by omega) (by omega) (by omega), place_digits _ _ _ _ (by omega) (by omega) (by omega)]
theorem nat_place (K : Nat) : nat (place K) = K := by
  have e : K = 256 * (K / 256) + 32 * (K / 32 % 8) + 8 * (K / 8 % 4) + K % 8 := by omega
  rw [e, place_digits _ _ _ _ (by omega) (by omega) (by omega), nat_digits _ _ _ _ (by omega) (by omega) (by omega)]

/-- The reordering as a bijection. -/
def natEquiv {T : Nat} (hT : T % 256 = 0) : Fin T ≃ Fin T where
  toFun K := ⟨nat K.val, nat_lt hT K.isLt⟩
  invFun k := ⟨place k.val, place_lt hT k.isLt⟩
  left_inv K := Fin.ext (place_nat K.val)
  right_inv k := Fin.ext (nat_place k.val)

/-- A linear layer summed in the kernel's order. -/
theorem lin_reordered {N G : Nat} (codes : (⟨3, ![N, G, 16]⟩ : Shape).Idx → BitVec 8) (s : (⟨2, ![N, G]⟩ : Shape).Idx → EReal)
    {K : Nat} (hK : K = 32 * G) (hT : K % 256 = 0) (a : (⟨2, ![16, K]⟩ : Shape).Idx → EReal) (m : Fin 16) (n : Fin N) :
    ∑ k : Fin K, a (ix2 m (natEquiv hT k)) * wt codes s hK n (natEquiv hT k) = lin codes s hK a m n :=
  Equiv.sum_comp (natEquiv hT) fun k => a (ix2 m k) * wt codes s hK n k

variable {F : FTy → Type} [FloatOps F]

/-- The 0/1 matrix of the reordering within 256 columns. -/
def permMat : FVec F S256x256 .bf16 :=
  let row : IVec S256x256 32 := iota .tc S256x256 32 [0] (by decide)
  let col : IVec S256x256 32 := iota .tc S256x256 32 [1] (by decide)
  truncf .bf16 (select (cmpi .eq col
    (addi (addi (muli (andi (shrui row (broadcast S256x256 3#32)) (broadcast S256x256 3#32)) (broadcast S256x256 64#32))
      (muli (shrui row (broadcast S256x256 5#32)) (broadcast S256x256 8#32))) (andi row (broadcast S256x256 7#32))))
    (broadcast S256x256 (Scalar.ofBits .f32 0x3F800000#32 : F .f32)) (broadcast S256x256 (Scalar.ofBits .f32 0x00000000#32 : F .f32))) (by decide)

theorem slices_cols (N T : Nat) (hT : T = 256 * N) (n : Fin N) : (⟨2, ![16, T]⟩ : Shape).Slices ![0, 256 * n.val] S16x256 :=
  ⟨rfl, fun a => by match a with
    | ⟨0, _⟩ => show 0 + 16 ≤ 16; omega
    | ⟨1, _⟩ => show 256 * n.val + 256 ≤ T; omega⟩

theorem slices_rows (N R : Nat) (hR : R = 16 * N) (n : Fin N) : (⟨2, ![R, 256]⟩ : Shape).Slices ![16 * n.val, 0] S16x256 :=
  ⟨rfl, fun a => by match a with
    | ⟨0, _⟩ => show 16 * n.val + 16 ≤ R; omega
    | ⟨1, _⟩ => show 0 + 256 ≤ 256; omega⟩

theorem map_shape {α : Type} (N : Nat) (s : Shape) (p : Fin N → (s.Idx → α)) :
    (List.ofFn fun n : Fin N => (⟨s, p n⟩ : (s : Shape) × (s.Idx → α))).map (·.1) = List.replicate N s := by
  simp [List.map_ofFn, Function.comp_def, List.ofFn_const]

theorem concat_rows (N R : Nat) (hN : 2 ≤ N) (hR : R = 16 * N) {α : Type} (p : Fin N → (S16x256.Idx → α)) :
    Shape.Concatenates ((List.ofFn fun n : Fin N => (⟨S16x256, p n⟩ : (s : Shape) × (s.Idx → α))).map (·.1)) ⟨2, ![R, 256]⟩ 0 := by
  rw [map_shape]
  refine ⟨by simpa using hN, ?_, ?_⟩
  · intro s hs
    obtain rfl := (List.mem_replicate.1 hs).2
    exact ⟨rfl, fun b hb => by
      match b with
      | ⟨0, _⟩ => exact absurd rfl hb
      | ⟨1, _⟩ => rfl⟩
  · simp [hR, Nat.mul_comm]

theorem concat_cols (N T : Nat) (hN : 2 ≤ N) (hT : T = 256 * N) {α : Type} (p : Fin N → (S16x256.Idx → α)) :
    Shape.Concatenates ((List.ofFn fun n : Fin N => (⟨S16x256, p n⟩ : (s : Shape) × (s.Idx → α))).map (·.1)) ⟨2, ![16, T]⟩ 1 := by
  rw [map_shape]
  refine ⟨by simpa using hN, ?_, ?_⟩
  · intro s hs
    obtain rfl := (List.mem_replicate.1 hs).2
    exact ⟨rfl, fun b hb => by
      match b with
      | ⟨0, _⟩ => rfl
      | ⟨1, _⟩ => exact absurd rfl hb⟩
  · simp [hT, Nat.mul_comm]

/-- The blocks of 256 columns, one under the other, times the 0/1 matrix. -/
def permStack (N R T : Nat) (hN : 2 ≤ N) (hR : R = 16 * N) (hT : T = 256 * N) (x : FVec F ⟨2, ![16, T]⟩ .bf16) : FVec F ⟨2, ![R, 256]⟩ .bf16 :=
  truncf .bf16 (matmul (DotDims.plain R 256 256) none
    (concatenate ⟨2, ![R, 256]⟩ 0 (List.ofFn fun n : Fin N => (⟨S16x256, extractStridedSlice S16x256 ![0, 256 * n.val] x (slices_cols N T hT n)⟩ : (s : Shape) × (s.Idx → F .bf16)))
      (concat_rows N R hN hR _)) permMat (constant ⟨2, ![R, 256]⟩ .f32 0x00000000#32)) (by decide)

/-- The reordered columns. -/
def permute (N R T : Nat) (hN : 2 ≤ N) (hR : R = 16 * N) (hT : T = 256 * N) (x : FVec F ⟨2, ![16, T]⟩ .bf16) : FVec F ⟨2, ![16, T]⟩ .bf16 :=
  concatenate ⟨2, ![16, T]⟩ 1
    (List.ofFn fun n : Fin N => (⟨S16x256, extractStridedSlice S16x256 ![16 * n.val, 0] (permStack N R T hN hR hT x) (slices_rows N R hR n)⟩ : (s : Shape) × (s.Idx → F .bf16)))
    (concat_cols N T hN hT _)

/-- The word the 0/1 matrix compares a column number with: the place of the row. -/
theorem place_word (r : Fin 256) :
    IntOp.addi
      (IntOp.addi (IntOp.muli (IntOp.andi (IntOp.shrui ArithUnit.vector (BitVec.ofNat 32 r.val) 3#32) 3#32) 64#32)
        (IntOp.muli (IntOp.shrui ArithUnit.vector (BitVec.ofNat 32 r.val) 5#32) 8#32))
      (IntOp.andi (BitVec.ofNat 32 r.val) 7#32) = BitVec.ofNat 32 (place r.val) := by
  revert r; decide +kernel

theorem permMat_apply (r c : Fin 256) : (permMat : FVec Ideal S256x256 .bf16) (ix2 r c) = if r.val = nat c.val then 1 else 0 := by
  pointwise [permMat]
  rw [place_word]
  have hp : place r.val < 256 := place_lt (T := 256) rfl r.isLt
  have e : BitVec.ofNat 32 c.val = BitVec.ofNat 32 (place r.val) ↔ r.val = nat c.val := by
    constructor
    · intro h
      have := congrArg BitVec.toNat h
      rw [BitVec.toNat_ofNat, BitVec.toNat_ofNat, Nat.mod_eq_of_lt (by omega), Nat.mod_eq_of_lt (by omega)] at this
      rw [this, nat_place]
    · intro h; rw [h, place_nat]
  by_cases h : r.val = nat c.val
  · simp [Scalar.select, IntOp.cmpi, e.2 h, h]
  · have hb : (BitVec.ofNat 32 c.val == BitVec.ofNat 32 (place r.val)) = false := beq_false_of_ne (mt e.1 h)
    simp [Scalar.select, IntOp.cmpi, hb, h]

/-- Column `K` of the result is column `nat K` of the operand. -/
theorem permute_apply (N R T : Nat) (hN : 2 ≤ N) (hR : R = 16 * N) (hT : T = 256 * N) (x : FVec Ideal ⟨2, ![16, T]⟩ .bf16) (m : Fin 16) (K : Fin T)
    (h : T % 256 = 0) : permute N R T hN hR hT x (ix2 m K) = x (ix2 m (natEquiv h K)) := by
  have hn : K.val / 256 < N := by omega
  have e1 : permute N R T hN hR hT x (ix2 m K)
      = extractStridedSlice S16x256 ![16 * (K.val / 256), 0] (permStack N R T hN hR hT x) (slices_rows N R hR ⟨K.val / 256, hn⟩) (ix2 m ⟨K.val % 256, by omega⟩) :=
    concatenate_ofFn_apply (t := ⟨2, ![16, T]⟩) (s₁ := S16x256) (1 : Fin 2)
      (fun n : Fin N => extractStridedSlice S16x256 ![16 * n.val, 0] (permStack N R T hN hR hT x) (slices_rows N R hR n)) (concat_cols N T hN hT _) rfl 256 rfl
      (ix2 m K) ⟨K.val / 256, hn⟩ rfl (ix2 m ⟨K.val % 256, by omega⟩) rfl (fun b hb => by
        match b with
        | ⟨0, _⟩ => rfl
        | ⟨1, _⟩ => exact absurd rfl hb)
  rw [e1]
  have e2 : extractStridedSlice S16x256 ![16 * (K.val / 256), 0] (permStack N R T hN hR hT x) (slices_rows N R hR ⟨K.val / 256, hn⟩) (ix2 m ⟨K.val % 256, by omega⟩)
      = permStack N R T hN hR hT x (ix2 ⟨16 * (K.val / 256) + m.val, by omega⟩ ⟨K.val % 256, by omega⟩) := by
    refine congrArg (permStack N R T hN hR hT x) ?_
    funext a
    match a with
    | ⟨0, _⟩ => exact Fin.ext rfl
    | ⟨1, _⟩ => exact Fin.ext (Nat.zero_add _)
  rw [e2]
  have e3 (r : Fin 256) : concatenate ⟨2, ![R, 256]⟩ 0 (List.ofFn fun n : Fin N => (⟨S16x256, extractStridedSlice S16x256 ![0, 256 * n.val] x (slices_cols N T hT n)⟩ : (s : Shape) × (s.Idx → EReal)))
      (concat_rows N R hN hR _) (ix2 ⟨16 * (K.val / 256) + m.val, by omega⟩ r) = x (ix2 m ⟨K.val / 256 * 256 + r.val, by omega⟩) := by
    refine (concatenate_ofFn_apply (t := ⟨2, ![R, 256]⟩) (s₁ := S16x256) (0 : Fin 2)
      (fun n : Fin N => extractStridedSlice S16x256 ![0, 256 * n.val] x (slices_cols N T hT n)) (concat_rows N R hN hR _) rfl 16 rfl
      _ ⟨K.val / 256, hn⟩ (by show (16 * (K.val / 256) + m.val) / 16 = K.val / 256; omega) (ix2 m r)
      (by show m.val = (16 * (K.val / 256) + m.val) % 16; omega) (fun b hb => by
        match b with
        | ⟨0, _⟩ => exact absurd rfl hb
        | ⟨1, _⟩ => rfl)).trans ?_
    refine congrArg x ?_
    funext a
    match a with
    | ⟨0, _⟩ => exact Fin.ext (Nat.zero_add _)
    | ⟨1, _⟩ => exact Fin.ext (by show 256 * (K.val / 256) + r.val = K.val / 256 * 256 + r.val; omega)
  have e4 : permStack N R T hN hR hT x (ix2 ⟨16 * (K.val / 256) + m.val, by omega⟩ ⟨K.val % 256, by omega⟩)
      = 0 + ∑ r : Fin 256, x (ix2 m ⟨K.val / 256 * 256 + r.val, by omega⟩) * (if r.val = nat (K.val % 256) then 1 else 0) := by
    refine (Ideal.matmul_plain_apply none _ _ _ _ _).trans ?_
    refine congrArg₂ (· + ·) Ideal.ofBits_zero_f32 (Finset.sum_congr rfl fun r _ => ?_)
    exact congrArg₂ (· * ·) (e3 r) (permMat_apply r _)
  rw [e4, zero_add]
  have hq : nat (K.val % 256) < 256 := nat_lt (T := 256) rfl (by omega)
  rw [Finset.sum_eq_single (⟨nat (K.val % 256), hq⟩ : Fin 256)]
  · rw [if_pos rfl, mul_one]
    refine congrArg (fun i => x (ix2 m i)) (Fin.ext ?_)
    show K.val / 256 * 256 + nat (K.val % 256) = nat K.val
    unfold nat; omega
  · intro r _ hr
    rw [if_neg fun h => hr (Fin.ext h), mul_zero]
  · intro h; exact absurd (Finset.mem_univ _) h

end Cert.Proof.Q4
-- ==== Proof.Blocks.lean ====
/-
  What one grid point of each matrix product computes, as one term of its input blocks, and that term at an element: the
  unpacked weight of an output column and a row in the kernel's order is the weight of the natural input at that place.
-/
module

public import proofs.«01_k».proof.Proof.Perm

@[expose] public section

noncomputable section

namespace Cert.Proof.Q4

open Idealize.ShloMosaic

abbrev S1x128 : Shape := ⟨2, ![1, 128]⟩
abbrev S16x128 : Shape := ⟨2, ![16, 128]⟩
abbrev S16x512 : Shape := ⟨2, ![16, 512]⟩
abbrev S512x128 : Shape := ⟨2, ![512, 128]⟩
abbrev S16x4096 : Shape := ⟨2, ![16, 4096]⟩
abbrev S16x8192 : Shape := ⟨2, ![16, 8192]⟩
abbrev S16x14848 : Shape := ⟨2, ![16, 14848]⟩
abbrev S1856x128 : Shape := ⟨2, ![1856, 128]⟩
abbrev S7424x128 : Shape := ⟨2, ![7424, 128]⟩
abbrev S14848x128 : Shape := ⟨2, ![14848, 128]⟩
abbrev S1856x1x128 : Shape := ⟨3, ![1856, 1, 128]⟩
abbrev S1856x8x128 : Shape := ⟨3, ![1856, 8, 128]⟩
abbrev S464x16x128 : Shape := ⟨3, ![464, 16, 128]⟩

/-! ## Columns side by side -/

theorem concat_wide (M R C : Nat) (hM : 2 ≤ M) (hC : C = 128 * M) {α : Type} (w : Fin M → ((⟨2, ![R, 128]⟩ : Shape).Idx → α)) :
    Shape.Concatenates ((List.ofFn fun n : Fin M => (⟨⟨2, ![R, 128]⟩, w n⟩ : (s : Shape) × (s.Idx → α))).map (·.1)) ⟨2, ![R, C]⟩ 1 := by
  rw [map_shape]
  refine ⟨by simpa using hM, ?_, ?_⟩
  · intro s hs
    obtain rfl := (List.mem_replicate.1 hs).2
    exact ⟨rfl, fun b hb => by
      match b with
      | ⟨0, _⟩ => rfl
      | ⟨1, _⟩ => exact absurd rfl hb⟩
  · simp [hC, Nat.mul_comm]

/-- Column blocks of 128 side by side. -/
def wide {α : Type} (M R C : Nat) (hM : 2 ≤ M) (hC : C = 128 * M) (w : Fin M → ((⟨2, ![R, 128]⟩ : Shape).Idx → α)) : (⟨2, ![R, C]⟩ : Shape).Idx → α :=
  concatenate ⟨2, ![R, C]⟩ 1 (List.ofFn fun n : Fin M => (⟨⟨2, ![R, 128]⟩, w n⟩ : (s : Shape) × (s.Idx → α))) (concat_wide M R C hM hC w)

theorem wide_apply {α : Type} (M R C : Nat) (hM : 2 ≤ M) (hC : C = 128 * M) (w : Fin M → ((⟨2, ![R, 128]⟩ : Shape).Idx → α)) (K : Fin R) (n : Fin C) :
    wide M R C hM hC w (ix2 K n) = w ⟨n.val / 128, by omega⟩ (ix2 K ⟨n.val % 128, by omega⟩) :=
  concatenate_ofFn_apply (t := ⟨2, ![R, C]⟩) (s₁ := ⟨2, ![R, 128]⟩) (1 : Fin 2) w (concat_wide M R C hM hC w) rfl 128 rfl (ix2 K n)
    ⟨n.val / 128, by omega⟩ rfl (ix2 K ⟨n.val % 128, by omega⟩) rfl (fun b hb => by
      match b with
      | ⟨0, _⟩ => rfl
      | ⟨1, _⟩ => exact absurd rfl hb)

variable {F : FTy → Type} [FloatOps F]

/-! ## The output projection: 512 columns, 128 groups -/

theorem slices_words512 (nb : Fin 4) (jw : Fin 4) : S512x4x128.Slices ![128 * nb.val, jw.val, 0] S128x1x128 :=
  ⟨rfl, fun a => by match a with
    | ⟨0, _⟩ => show 128 * nb.val + 128 ≤ 512; omega
    | ⟨1, _⟩ => show jw.val + 1 ≤ 4; omega
    | ⟨2, _⟩ => show 0 + 128 ≤ 128; omega⟩

theorem slices_s512 (nb : Fin 4) : S512x128.Slices ![128 * nb.val, 0] S128x128 :=
  ⟨rfl, fun a => by match a with
    | ⟨0, _⟩ => show 128 * nb.val + 128 ≤ 512; omega
    | ⟨1, _⟩ => show 0 + 128 ≤ 128; omega⟩

/-- 128 columns of the unpacked weights of a block of 512. -/
def woCol (ct : IVec S512x16x128 8) (s : FVec F S512x128 .bf16) (nb : Fin 4) : FVec F S4096x128 .bf16 :=
  column 64 4096 (fun n => piece
      (unpackTile (extractStridedSlice S128x1x128 ![128 * nb.val, n.val % 4, 0] (words512 ct) (slices_words512 nb ⟨n.val % 4, by omega⟩)))
      (transpose S128x128 [1, 0] (extractStridedSlice S128x128 ![128 * nb.val, 0] (extf .f32 s (by decide)) (slices_s512 nb)) (by decide))
      ⟨n.val / 4, by omega⟩)
    (concat_ok 64 4096 (by decide) rfl _)

/-- The block the output projection stores. -/
def woBlock (a : FVec F S16x4096 .bf16) (ct : IVec S512x16x128 8) (s : FVec F S512x128 .bf16) (x : FVec F S16x512 .bf16) : FVec F S16x512 .f32 :=
  addf (extf .f32 x (by decide))
    (matmul (DotDims.plain 16 4096 512) none a (wide 4 4096 512 (by decide) rfl (woCol ct s)) (constant S16x512 .f32 0x00000000#32))

/-- A piece of an unpacked tile at an element, from the byte that holds its nibble. -/
theorem piece_unpack (x : IVec S128x1x128 32) (s : FVec Ideal S128x128 .f32) (g : Fin 16) (r : Fin 64) (c : Fin 128) (b : BitVec 8)
    (hb : ∀ q, q < 8 → (x (ix3 c 0 ⟨8 * g.val + r.val / 8, by omega⟩)).getLsbD (8 * (r.val % 8 / 2) + q) = b.getLsbD q) :
    piece (unpackTile x) s g (ix2 r c) = ((code b (r.val % 2) : ℝ) : EReal) * s (ix2 ⟨8 * g.val + r.val / 8, by omega⟩ c) := by
  rw [piece_apply, unpackTile_toInt x _ c b (fun q hq => ?_)]
  · rw [show (64 * g.val + r.val) % 2 = r.val % 2 by omega]
  · rw [← hb q hq]
    have e1 : (64 * g.val + r.val) / 8 = 8 * g.val + r.val / 8 := by omega
    have e2 : (64 * g.val + r.val) % 8 = r.val % 8 := by omega
    simp only [e1, e2]

theorem nat_div (K : Nat) : nat K / 32 = K / 256 * 8 + K % 64 / 8 := by unfold nat; omega
theorem nat_mod (K : Nat) : nat K % 32 = K % 256 / 64 * 8 + K % 8 := by unfold nat; omega

theorem woCol_apply (ct : IVec S512x16x128 8) (s : FVec Ideal S512x128 .bf16) (nb : Fin 4) (K : Fin 4096) (c : Fin 128) :
    woCol ct s nb (ix2 K c)
      = ((code (ct (ix3 ⟨128 * nb.val + c.val, by omega⟩ ⟨nat K.val % 32 / 2, by omega⟩ ⟨nat K.val / 32, by rw [nat_div]; omega⟩)) (nat K.val % 32 % 2) : ℝ) : EReal)
        * s (ix2 ⟨128 * nb.val + c.val, by omega⟩ ⟨nat K.val / 32, by rw [nat_div]; omega⟩) := by
  have hK : K.val / 64 < 64 := by omega
  rw [woCol, column_apply (hN := hK)]
  rw [piece_unpack _ _ _ _ _ (ct (ix3 ⟨128 * nb.val + c.val, by omega⟩ ⟨nat K.val % 32 / 2, by omega⟩ ⟨nat K.val / 32, by rw [nat_div]; omega⟩)) ?_]
  · refine congrArg₂ (· * ·) ?_ ?_
    · rw [show K.val % 64 % 2 = nat K.val % 32 % 2 by rw [nat_mod]; omega]
    · pointwise
      exact congrArg s (by congr 1 <;> apply Fin.ext <;> simp [nat_div] <;> omega)
  · intro q hq
    pointwise
    refine Eq.trans ?_ ((words512_getLsbD ct ⟨128 * nb.val + c.val, by omega⟩ ⟨K.val / 64 % 4, by omega⟩ ⟨nat K.val / 32, by rw [nat_div]; omega⟩
      ⟨K.val % 8 / 2, by omega⟩ q hq).trans ?_)
    · refine congrArg₂ BitVec.getLsbD (congrArg _ ?_) ?_
      · congr 1 <;> apply Fin.ext <;> simp [nat_div] <;> omega
      · simp only []; omega
    · congr 2
      congr 1
      apply Fin.ext
      simp only [nat_mod]; omega

/-- The output projection's block at an element. -/
theorem woBlock_apply (a : FVec Ideal S16x4096 .bf16) (ct : IVec S512x16x128 8) (s : FVec Ideal S512x128 .bf16) (x : FVec Ideal S16x512 .bf16)
    (m : Fin 16) (n : Fin 512) :
    woBlock a ct s x (ix2 m n)
      = x (ix2 m n) + ∑ K : Fin 4096, a (ix2 m K)
          * (((code (ct (ix3 n ⟨nat K.val % 32 / 2, by omega⟩ ⟨nat K.val / 32, by rw [nat_div]; omega⟩)) (nat K.val % 32 % 2) : ℝ) : EReal)
            * s (ix2 n ⟨nat K.val / 32, by rw [nat_div]; omega⟩)) := by
  pointwise [woBlock]
  refine congrArg (x (ix2 m n) + ·) (Finset.sum_congr rfl fun K _ => congrArg (a (ix2 m K) * ·) ?_)
  rw [wide_apply, woCol_apply]
  have e : (⟨128 * (n.val / 128) + n.val % 128, by omega⟩ : Fin 512) = n := Fin.ext (by show 128 * (n.val / 128) + n.val % 128 = n.val; omega)
  simp only [e]

/-! ## Gate and up: 256 columns, two tiles of 128 groups -/

theorem slices_words256 (nb : Fin 2) (jw : Fin 4) : S256x4x128.Slices ![128 * nb.val, jw.val, 0] S128x1x128 :=
  ⟨rfl, fun a => by match a with
    | ⟨0, _⟩ => show 128 * nb.val + 128 ≤ 256; omega
    | ⟨1, _⟩ => show jw.val + 1 ≤ 4; omega
    | ⟨2, _⟩ => show 0 + 128 ≤ 128; omega⟩

theorem slices_s256 (nb gt : Fin 2) : S256x256.Slices ![128 * nb.val, 128 * gt.val] S128x128 :=
  ⟨rfl, fun a => by match a with
    | ⟨0, _⟩ => show 128 * nb.val + 128 ≤ 256; omega
    | ⟨1, _⟩ => show 128 * gt.val + 128 ≤ 256; omega⟩

/-- 128 columns of the unpacked weights of a block of 256. -/
def guCol (c : Fin 2 → IVec S256x16x128 8) (s : FVec F S256x256 .bf16) (nb : Fin 2) : FVec F S8192x128 .bf16 :=
  column 128 8192 (fun n => piece
      (unpackTile (extractStridedSlice S128x1x128 ![128 * nb.val, n.val % 4, 0] (words256 (c ⟨n.val / 64, by omega⟩)) (slices_words256 nb ⟨n.val % 4, by omega⟩)))
      (transpose S128x128 [1, 0] (extractStridedSlice S128x128 ![128 * nb.val, 128 * (n.val / 64)] (extf .f32 s (by decide)) (slices_s256 nb ⟨n.val / 64, by omega⟩)) (by decide))
      ⟨n.val % 64 / 4, by omega⟩)
    (concat_ok 128 8192 (by decide) rfl _)

/-- One product of the gate and up block. -/
def guDot (a : FVec F S16x8192 .bf16) (c : Fin 2 → IVec S256x16x128 8) (s : FVec F S256x256 .bf16) : FVec F S16x256 .f32 :=
  matmul (DotDims.plain 16 8192 256) none a (wide 2 8192 256 (by decide) rfl (guCol c s)) (constant S16x256 .f32 0x00000000#32)

/-- The block gate and up store. -/
def guBlock (a : FVec F S16x8192 .bf16) (g0 g1 : IVec S256x16x128 8) (gs : FVec F S256x256 .bf16) (u0 u1 : IVec S256x16x128 8) (us : FVec F S256x256 .bf16) :
    FVec F S16x256 .bf16 :=
  truncf .bf16 (mulf (divf (guDot a ![g0, g1] gs) (addf (constant S16x256 .f32 0x3F800000#32) (exp (subf (constant S16x256 .f32 0x00000000#32) (guDot a ![g0, g1] gs)))))
    (guDot a ![u0, u1] us)) (by decide)

theorem guCol_apply (ct : Fin 2 → IVec S256x16x128 8) (s : FVec Ideal S256x256 .bf16) (nb : Fin 2) (K : Fin 8192) (c : Fin 128) :
    guCol ct s nb (ix2 K c)
      = ((code (ct ⟨K.val / 4096, by omega⟩ (ix3 ⟨128 * nb.val + c.val, by omega⟩ ⟨nat K.val % 32 / 2, by omega⟩ ⟨nat K.val / 32 % 128, by omega⟩)) (nat K.val % 32 % 2) : ℝ) : EReal)
        * s (ix2 ⟨128 * nb.val + c.val, by omega⟩ ⟨nat K.val / 32, by rw [nat_div]; omega⟩) := by
  have hK : K.val / 64 < 128 := by omega
  rw [guCol, column_apply (hN := hK)]
  rw [piece_unpack _ _ _ _ _ (ct ⟨K.val / 4096, by omega⟩ (ix3 ⟨128 * nb.val + c.val, by omega⟩ ⟨nat K.val % 32 / 2, by omega⟩ ⟨nat K.val / 32 % 128, by omega⟩)) ?_]
  · refine congrArg₂ (· * ·) ?_ ?_
    · rw [show K.val % 64 % 2 = nat K.val % 32 % 2 by rw [nat_mod]; omega]
    · pointwise
      exact congrArg s (by congr 1 <;> apply Fin.ext <;> simp [nat_div] <;> omega)
  · intro q hq
    pointwise
    refine Eq.trans ?_ ((words256_getLsbD (ct ⟨K.val / 4096, by omega⟩) ⟨128 * nb.val + c.val, by omega⟩ ⟨K.val / 64 % 4, by omega⟩ ⟨nat K.val / 32 % 128, by omega⟩
      ⟨K.val % 8 / 2, by omega⟩ q hq).trans ?_)
    · have e : (⟨K.val / 64 / 64, by omega⟩ : Fin 2) = ⟨K.val / 4096, by omega⟩ := Fin.ext (by show K.val / 64 / 64 = K.val / 4096; omega)
      rw [e]
      refine congrArg₂ BitVec.getLsbD (congrArg _ ?_) ?_
      · congr 1 <;> apply Fin.ext <;> simp [nat_div] <;> omega
      · simp only []; omega
    · congr 2
      congr 1
      apply Fin.ext
      simp only [nat_mod]; omega

/-- One product of the gate and up block at an element. -/
theorem guDot_apply (a : FVec Ideal S16x8192 .bf16) (ct : Fin 2 → IVec S256x16x128 8) (s : FVec Ideal S256x256 .bf16) (m : Fin 16) (n : Fin 256) :
    guDot a ct s (ix2 m n)
      = ∑ K : Fin 8192, a (ix2 m K)
          * (((code (ct ⟨K.val / 4096, by omega⟩ (ix3 n ⟨nat K.val % 32 / 2, by omega⟩ ⟨nat K.val / 32 % 128, by omega⟩)) (nat K.val % 32 % 2) : ℝ) : EReal)
            * s (ix2 n ⟨nat K.val / 32, by rw [nat_div]; omega⟩)) := by
  pointwise [guDot]
  refine Finset.sum_congr rfl fun K _ => congrArg (a (ix2 m K) * ·) ?_
  rw [wide_apply, guCol_apply]
  have e : (⟨128 * (n.val / 128) + n.val % 128, by omega⟩ : Fin 256) = n := Fin.ext (by show 128 * (n.val / 128) + n.val % 128 = n.val; omega)
  simp only [e]

/-- The gate and up block at an element. -/
theorem guBlock_apply (a : FVec Ideal S16x8192 .bf16) (g0 g1 : IVec S256x16x128 8) (gs : FVec Ideal S256x256 .bf16) (u0 u1 : IVec S256x16x128 8)
    (us : FVec Ideal S256x256 .bf16) (m : Fin 16) (n : Fin 256) :
    guBlock a g0 g1 gs u0 u1 us (ix2 m n)
      = Ideal.div (guDot a ![g0, g1] gs (ix2 m n)) (1 + Ideal.exp (0 - guDot a ![g0, g1] gs (ix2 m n))) * guDot a ![u0, u1] us (ix2 m n) := by
  pointwise [guBlock]

/-! ## Down: 128 columns, 464 groups in their natural order -/

/-- The unpacked nibbles of a column block, row `32 group + place`. -/
def dnRows (ct : IVec S464x16x128 8) : IVec S14848x128 32 :=
  shapeCast S14848x128
    (shrsi
      (shli (broadcastTo S1856x8x128 (shapeCast S1856x1x128 (shapeCast S1856x1x128
        (xori (bitcast S1856x128 32 (shapeCast S7424x128 ct (by decide)) (by decide)) (broadcast S1856x128 0x88888888#32))
        (by decide)) (by decide)) (by decide))
        (subi (broadcast S1856x8x128 28#32) (muli (broadcast S1856x8x128 4#32) (iota .tc S1856x8x128 32 [1] (by decide)))))
      (broadcast S1856x8x128 28#32)) (by decide)

end Cert.Proof.Q4
-- ==== Proof.Region1.lean ====
/-
  The output projection: what one grid point leaves in its block, as one term, and the array after all points.
-/
module

public import proofs.«01_k».proof.Proof.Gen.KernelIdeal.Frame.Region1
public import proofs.«01_k».proof.Proof.Blocks
public import Idealize.ShloMosaic.Lib.Pipeline.ValueKit

@[expose] public section

set_option maxRecDepth 16384

noncomputable section

namespace Cert.KernelIdeal.Gen

open Idealize.ShloMosaic Idealize.ShloMosaic.TcCoe
open Cert.Proof.Q4 (woBlock woBlock_apply nat nat_div code)
open Idealize.ShloMosaic.Pipeline (Dat Cfg Window)

section Any
variable {F : FTy → Type} [FloatOps F]

theorem out1_term (x0 : Vec F S16x4096 .bf16) (x1 : Vec F S512x16x128 .i8) (x2 : Vec F S512x128 .bf16) (x3 : Vec F S16x512 .bf16) :
    out1_4 x0 x1 x2 x3
      = View.canon [⟨r1_3, woBlock (shapeCast S16x4096 (View.ld x0 r1_0) shapeCasts_S16x4096_S16x4096) (View.ld x1 r1_2) (View.ld x2 r1_1)
          (shapeCast S16x512 (View.ld x3 r1_3) shapeCasts_S16x512_S16x512)⟩] := by
  rfl

/-- The output projection's store. -/
theorem out1_spec (x0 : Vec F S16x4096 .bf16) (x1 : Vec F S512x16x128 .i8) (x2 : Vec F S512x128 .bf16) (x3 : Vec F S16x512 .bf16) :
    out1_4 x0 x1 x2 x3 = woBlock x0 x1 x2 x3 := by
  rw [out1_term, View.canon_unit_zero (funext fun a => by fin_cases a <;> rfl), View.ld_unit_zero (funext fun a => by fin_cases a <;> rfl),
    View.ld_unit_zero (funext fun a => by fin_cases a <;> rfl), View.ld_unit_zero (funext fun a => by fin_cases a <;> rfl),
    View.ld_unit_zero (funext fun a => by fin_cases a <;> rfl)]
  exact congrArg₂ (fun a x => woBlock a x1 x2 x) (shapeCast_self x0 _) (shapeCast_self x3 _)

end Any

/-- The output projection of whole arrays: input rows in the kernel's order, codes as bytes `(output, byte, group)`. -/
def woArr (a : FVec Ideal S16x4096 .bf16) (ct : IVec S8192x16x128 8) (s : FVec Ideal S8192x128 .bf16) (x : FVec Ideal S16x8192 .bf16) :
    FVec Ideal S16x8192 .f32 := fun j =>
  x j + ∑ K : Fin 4096, a (ix2 (j 0) K)
    * (((code (ct (ix3 (j 1) ⟨nat K.val % 32 / 2, by omega⟩ ⟨nat K.val / 32, by rw [nat_div]; omega⟩)) (nat K.val % 32 % 2) : ℝ) : EReal)
      * s (ix2 (j 1) ⟨nat K.val / 32, by rw [nat_div]; omega⟩))

/-- The block indices of the windows at a point. -/
theorem idx1 : ∀ t : Fin grid1.N, win1_0.index t = ![0, 0] ∧ win1_1.index t = ![t.val, 0, 0] ∧ win1_2.index t = ![t.val, 0]
    ∧ win1_3.index t = ![0, t.val] ∧ win1_4.index t = ![0, t.val] := by
  decide +kernel

/-- After the region its array is the output projection of the arrays it read. -/
theorem arr1 (V : (c : Dev nD) → (b : Ref sig .tc) → b.ty.Contents (Elt Ideal)) (c : Dev nD) :
    (dat1 V c).arrAt 4 cfg1.N
      = woArr (V c (Pipeline.arrRef spec1 0)) (V c (Pipeline.arrRef spec1 1)) (V c (Pipeline.arrRef spec1 2)) (V c (Pipeline.arrRef spec1 3)) := by
  refine (dat1 V c).arrAt_eq_of_covers 4 _ (by decide +kernel) fun t hf y => ?_
  blk_simp
  rw [after1_4, out1_spec]
  obtain ⟨m, n, rfl⟩ : ∃ (m : Fin 16) (n : Fin 512), y = ix2 m n := ⟨y 0, y 1, funext fun a => by fin_cases a <;> rfl⟩
  refine (woBlock_apply _ _ _ _ m n).trans ?_
  unfold woArr
  refine congrArg₂ (· + ·) ?_ (Finset.sum_congr rfl fun K _ => congrArg₂ (· * ·) ?_ (congrArg₂ (· * ·) (congrArg (fun b => ((code b (nat K.val % 32 % 2) : ℝ) : EReal)) ?_) ?_))
  · blk_ext [iblk1, idx1 t]
  · blk_ext [iblk1, idx1 t]
  · blk_ext [iblk1, idx1 t]
  · blk_ext [iblk1, idx1 t]

end Cert.KernelIdeal.Gen
-- ==== Proof.Region2.lean ====
/-
  The two calls that put a row into the kernel's order, the second after normalising it: what each leaves, as one term,
  and its array after the run.
-/
module

public import proofs.«01_k».proof.Proof.Gen.KernelIdeal.Frame.Region0
public import proofs.«01_k».proof.Proof.Gen.KernelIdeal.Frame.Region2
public import proofs.«01_k».proof.Proof.Perm
public import Idealize.ShloMosaic.Lib.Pipeline.ValueKit

@[expose] public section

set_option maxRecDepth 16384

noncomputable section

namespace Cert.KernelIdeal.Gen

open Idealize.ShloMosaic Idealize.ShloMosaic.TcCoe
open Cert.Proof.Q4 (permute permute_apply natEquiv)
open Idealize.ShloMosaic.Pipeline (Dat Cfg Window)

section Any
variable {F : FTy → Type} [FloatOps F]

theorem out0_term (x0 : Vec F S16x4096 .bf16) :
    out0_1 x0 = View.canon [⟨r0_0, permute 16 256 4096 (by decide) rfl rfl (shapeCast S16x4096 (View.ld x0 r0_0) shapeCasts_S16x4096_S16x4096)⟩] := by
  rfl

theorem out0_spec (x0 : Vec F S16x4096 .bf16) : out0_1 x0 = permute 16 256 4096 (by decide) rfl rfl x0 := by
  rw [out0_term, View.canon_unit_zero (funext fun a => by fin_cases a <;> rfl), View.ld_unit_zero (funext fun a => by fin_cases a <;> rfl)]
  exact congrArg (permute 16 256 4096 _ _ _) (shapeCast_self x0 _)

theorem out2_term (x0 : Vec F S16x8192 .f32) (x1 : Vec F S1x8192 .bf16) :
    out2_2 x0 x1 = View.canon [⟨r2_0, permute 32 512 8192 (by decide) rfl rfl (k2_pay2 (View.ld x0 r2_0) (View.ld x1 r2_1))⟩] := by
  rfl

theorem out2_spec (x0 : Vec F S16x8192 .f32) (x1 : Vec F S1x8192 .bf16) : out2_2 x0 x1 = permute 32 512 8192 (by decide) rfl rfl (k2_pay2 x0 x1) := by
  rw [out2_term, View.canon_unit_zero (funext fun a => by fin_cases a <;> rfl), View.ld_unit_zero (funext fun a => by fin_cases a <;> rfl),
    View.ld_unit_zero (funext fun a => by fin_cases a <;> rfl)]

end Any

/-- The block indices of the windows at the one point of the first call. -/
theorem idx0 : ∀ t : Fin grid0.N, win0_0.index t = ![0, 0] ∧ win0_1.index t = ![0, 0] := by decide +kernel

theorem idx2 : ∀ t : Fin grid2.N, win2_0.index t = ![0, 0] ∧ win2_1.index t = ![0, 0] ∧ win2_2.index t = ![0, 0] := by decide +kernel

/-- After the first call its array is its input in the kernel's order. -/
theorem arr0 (V : (c : Dev nD) → (b : Ref sig .tc) → b.ty.Contents (Elt Ideal)) (c : Dev nD) (m : Fin 16) (K : Fin 4096) :
    ((dat0 V c).arrAt 1 cfg0.N : FVec Ideal S16x4096 .bf16) (ix2 m K)
      = (V c (Pipeline.arrRef spec0 0) : FVec Ideal S16x4096 .bf16) (ix2 m (natEquiv (T := 4096) rfl K)) := by
  have key : (dat0 V c).arrAt 1 cfg0.N = (permute (F := Ideal) 16 256 4096 (by decide) rfl rfl (V c (Pipeline.arrRef spec0 0)) : FVec Ideal S16x4096 .bf16) := by
    refine (dat0 V c).arrAt_eq_of_covers 1 _ (by decide +kernel) fun t hf y => ?_
    blk_simp
    rw [after0_1, out0_spec]
    have e0 : (iblk0 V c 0 t : FVec Ideal S16x4096 .bf16) = V c (Pipeline.arrRef spec0 0) := by
      funext j
      obtain ⟨p, q, rfl⟩ : ∃ (p : Fin 16) (q : Fin 4096), j = ix2 p q := ⟨j 0, j 1, funext fun a => by fin_cases a <;> rfl⟩
      blk_ext [iblk0, idx0 t]
    rw [e0]
    obtain ⟨p, q, rfl⟩ : ∃ (p : Fin 16) (q : Fin 4096), y = ix2 p q := ⟨y 0, y 1, funext fun a => by fin_cases a <;> rfl⟩
    blk_ext [idx0 t]
  rw [key]
  exact permute_apply _ _ _ _ _ _ _ _ _ _

/-- After the normalising call its array is the normalised row in the kernel's order. -/
theorem arr2 (V : (c : Dev nD) → (b : Ref sig .tc) → b.ty.Contents (Elt Ideal)) (c : Dev nD) (m : Fin 16) (K : Fin 8192) :
    ((dat2 V c).arrAt 2 cfg2.N : FVec Ideal S16x8192 .bf16) (ix2 m K)
      = k2_pay2 (F := Ideal) (V c (Pipeline.arrRef spec2 0)) (V c (Pipeline.arrRef spec2 1)) (ix2 m (natEquiv (T := 8192) rfl K)) := by
  have key : (dat2 V c).arrAt 2 cfg2.N
      = (permute (F := Ideal) 32 512 8192 (by decide) rfl rfl (k2_pay2 (V c (Pipeline.arrRef spec2 0)) (V c (Pipeline.arrRef spec2 1))) : FVec Ideal S16x8192 .bf16) := by
    refine (dat2 V c).arrAt_eq_of_covers 2 _ (by decide +kernel) fun t hf y => ?_
    blk_simp
    rw [after2_2, out2_spec]
    have e0 : (iblk2 V c 0 t : FVec Ideal S16x8192 .f32) = V c (Pipeline.arrRef spec2 0) := by
      funext j
      obtain ⟨p, q, rfl⟩ : ∃ (p : Fin 16) (q : Fin 8192), j = ix2 p q := ⟨j 0, j 1, funext fun a => by fin_cases a <;> rfl⟩
      blk_ext [iblk2, idx2 t]
    have e1 : (iblk2 V c 1 t : FVec Ideal S1x8192 .bf16) = V c (Pipeline.arrRef spec2 1) := by
      funext j
      obtain ⟨p, q, rfl⟩ : ∃ (p : Fin 1) (q : Fin 8192), j = ix2 p q := ⟨j 0, j 1, funext fun a => by fin_cases a <;> rfl⟩
      blk_ext [iblk2, idx2 t]
    rw [e0, e1]
    obtain ⟨p, q, rfl⟩ : ∃ (p : Fin 16) (q : Fin 8192), y = ix2 p q := ⟨y 0, y 1, funext fun a => by fin_cases a <;> rfl⟩
    blk_ext [idx2 t]
  rw [key]
  exact permute_apply _ _ _ _ _ _ _ _ _ _

end Cert.KernelIdeal.Gen
-- ==== Proof.Region3.lean ====
/-
  Gate and up: what one grid point leaves in its block, as one term, and the array after all points.
-/
module

public import proofs.«01_k».proof.Proof.Gen.KernelIdeal.Frame.Region3
public import proofs.«01_k».proof.Proof.Blocks
public import Idealize.ShloMosaic.Lib.Pipeline.ValueKit

@[expose] public section

set_option maxRecDepth 16384

noncomputable section

namespace Cert.KernelIdeal.Gen

open Idealize.ShloMosaic Idealize.ShloMosaic.TcCoe
open Cert.Proof.Q4 (guBlock guBlock_apply guDot guDot_apply nat nat_div code)
open Idealize.ShloMosaic.Pipeline (Dat Cfg Window)

section Any
variable {F : FTy → Type} [FloatOps F]

theorem out3_term (x0 : Vec F S16x8192 .bf16) (x1 : Vec F S256x16x128 .i8) (x2 : Vec F S256x16x128 .i8) (x3 : Vec F S256x256 .bf16)
    (x4 : Vec F S256x16x128 .i8) (x5 : Vec F S256x16x128 .i8) (x6 : Vec F S256x256 .bf16) :
    out3_7 x0 x1 x2 x3 x4 x5 x6
      = View.canon [⟨r3_3, guBlock (shapeCast S16x8192 (View.ld x0 r3_0) shapeCasts_S16x8192_S16x8192) (View.ld x1 r3_2) (View.ld x2 r3_2) (View.ld x3 r3_1)
          (View.ld x4 r3_2) (View.ld x5 r3_2) (View.ld x6 r3_1)⟩] := by
  rfl

/-- The gate and up store. -/
theorem out3_spec (x0 : Vec F S16x8192 .bf16) (x1 : Vec F S256x16x128 .i8) (x2 : Vec F S256x16x128 .i8) (x3 : Vec F S256x256 .bf16)
    (x4 : Vec F S256x16x128 .i8) (x5 : Vec F S256x16x128 .i8) (x6 : Vec F S256x256 .bf16) :
    out3_7 x0 x1 x2 x3 x4 x5 x6 = guBlock x0 x1 x2 x3 x4 x5 x6 := by
  rw [out3_term, View.canon_unit_zero (funext fun a => by fin_cases a <;> rfl), View.ld_unit_zero (funext fun a => by fin_cases a <;> rfl),
    View.ld_unit_zero (funext fun a => by fin_cases a <;> rfl), View.ld_unit_zero (funext fun a => by fin_cases a <;> rfl),
    View.ld_unit_zero (funext fun a => by fin_cases a <;> rfl), View.ld_unit_zero (funext fun a => by fin_cases a <;> rfl),
    View.ld_unit_zero (funext fun a => by fin_cases a <;> rfl), View.ld_unit_zero (funext fun a => by fin_cases a <;> rfl)]
  exact congrArg (fun a => guBlock a x1 x2 x3 x4 x5 x6) (shapeCast_self x0 _)

end Any

/-- One product of gate and up on whole arrays: input rows in the kernel's order, codes as bytes `(output, byte, group)`. -/
def guLin (a : FVec Ideal S16x8192 .bf16) (ct : IVec S14848x16x256 8) (s : FVec Ideal S14848x256 .bf16) (m : Fin 16) (n : Fin 14848) : EReal :=
  ∑ K : Fin 8192, a (ix2 m K)
    * (((code (ct (ix3 n ⟨nat K.val % 32 / 2, by omega⟩ ⟨nat K.val / 32, by rw [nat_div]; omega⟩)) (nat K.val % 32 % 2) : ℝ) : EReal)
      * s (ix2 n ⟨nat K.val / 32, by rw [nat_div]; omega⟩))

/-- Gate and up on whole arrays. -/
def guArr (a : FVec Ideal S16x8192 .bf16) (g : IVec S14848x16x256 8) (gs : FVec Ideal S14848x256 .bf16) (u : IVec S14848x16x256 8)
    (us : FVec Ideal S14848x256 .bf16) : FVec Ideal S16x14848 .bf16 := fun j =>
  Ideal.div (guLin a g gs (j 0) (j 1)) (1 + Ideal.exp (0 - guLin a g gs (j 0) (j 1))) * guLin a u us (j 0) (j 1)

/-- The block indices of the windows at a point. -/
theorem idx3 : ∀ t : Fin grid3.N, win3_0.index t = ![0, 0] ∧ win3_1.index t = ![t.val, 0, 0] ∧ win3_2.index t = ![t.val, 0, 1]
    ∧ win3_3.index t = ![t.val, 0] ∧ win3_4.index t = ![t.val, 0, 0] ∧ win3_5.index t = ![t.val, 0, 1] ∧ win3_6.index t = ![t.val, 0]
    ∧ win3_7.index t = ![0, t.val] := by
  decide +kernel

set_option maxHeartbeats 4000000 in
/-- After the region its array is gate and up of the arrays it read. -/
theorem arr3 (V : (c : Dev nD) → (b : Ref sig .tc) → b.ty.Contents (Elt Ideal)) (c : Dev nD) :
    (dat3 V c).arrAt 7 cfg3.N
      = guArr (V c (Pipeline.arrRef spec3 0)) (V c (Pipeline.arrRef spec3 1)) (V c (Pipeline.arrRef spec3 3)) (V c (Pipeline.arrRef spec3 4))
          (V c (Pipeline.arrRef spec3 6)) := by
  refine (dat3 V c).arrAt_eq_of_covers 7 _ (by decide +kernel) fun t hf y => ?_
  blk_simp
  rw [after3_7, out3_spec]
  obtain ⟨m, n, rfl⟩ : ∃ (m : Fin 16) (n : Fin 256), y = ix2 m n := ⟨y 0, y 1, funext fun a => by fin_cases a <;> rfl⟩
  refine (guBlock_apply _ _ _ _ _ _ _ m n).trans ?_
  unfold guArr
  have hg : guDot (F := Ideal) (iblk3 V c 0 t) ![iblk3 V c 1 t, iblk3 V c 2 t] (iblk3 V c 3 t) (ix2 m n)
      = guLin (V c (Pipeline.arrRef spec3 0)) (V c (Pipeline.arrRef spec3 1)) (V c (Pipeline.arrRef spec3 3))
          ((win3_7.blk t).view.emb (ix2 m n) 0) ((win3_7.blk t).view.emb (ix2 m n) 1) := by
    refine (guDot_apply _ _ _ m n).trans ?_
    unfold guLin
    refine Finset.sum_congr rfl fun K _ => congrArg₂ (· * ·) ?_ (congrArg₂ (· * ·) (congrArg (fun b => ((code b (nat K.val % 32 % 2) : ℝ) : EReal)) ?_) ?_)
    · blk_ext [iblk3, idx3 t]
    · have hn := nat_div K.val
      rcases (by omega : K.val / 4096 = 0 ∨ K.val / 4096 = 1) with h | h
      · rw [show (⟨K.val / 4096, by omega⟩ : Fin 2) = 0 from Fin.ext h]
        show iblk3 V c 1 t _ = _
        blk_ext [iblk3, idx3 t]
      · rw [show (⟨K.val / 4096, by omega⟩ : Fin 2) = 1 from Fin.ext h]
        show iblk3 V c 2 t _ = _
        blk_ext [iblk3, idx3 t]
    · blk_ext [iblk3, idx3 t]
  have hu : guDot (F := Ideal) (iblk3 V c 0 t) ![iblk3 V c 4 t, iblk3 V c 5 t] (iblk3 V c 6 t) (ix2 m n)
      = guLin (V c (Pipeline.arrRef spec3 0)) (V c (Pipeline.arrRef spec3 4)) (V c (Pipeline.arrRef spec3 6))
          ((win3_7.blk t).view.emb (ix2 m n) 0) ((win3_7.blk t).view.emb (ix2 m n) 1) := by
    refine (guDot_apply _ _ _ m n).trans ?_
    unfold guLin
    refine Finset.sum_congr rfl fun K _ => congrArg₂ (· * ·) ?_ (congrArg₂ (· * ·) (congrArg (fun b => ((code b (nat K.val % 32 % 2) : ℝ) : EReal)) ?_) ?_)
    · blk_ext [iblk3, idx3 t]
    · have hn := nat_div K.val
      rcases (by omega : K.val / 4096 = 0 ∨ K.val / 4096 = 1) with h | h
      · rw [show (⟨K.val / 4096, by omega⟩ : Fin 2) = 0 from Fin.ext h]
        show iblk3 V c 4 t _ = _
        blk_ext [iblk3, idx3 t]
      · rw [show (⟨K.val / 4096, by omega⟩ : Fin 2) = 1 from Fin.ext h]
        show iblk3 V c 5 t _ = _
        blk_ext [iblk3, idx3 t]
    · blk_ext [iblk3, idx3 t]
  rw [hg, hu]

end Cert.KernelIdeal.Gen
-- ==== Proof.Down.lean ====
/-
  What one grid point of the down product computes, as one term of its input blocks, and that term at an element.
-/
module

public import proofs.«01_k».proof.Proof.Blocks

@[expose] public section

noncomputable section

namespace Cert.Proof.Q4

open Idealize.ShloMosaic

variable {F : FTy → Type} [FloatOps F]

theorem dnRows_toInt (ct : IVec S464x16x128 8) (K : Fin 14848) (c : Fin 128) :
    (dnRows ct (ix2 K c)).toInt = code (ct (ix3 ⟨K.val / 32, by omega⟩ ⟨K.val % 32 / 2, by omega⟩ c)) (K.val % 32 % 2) := by
  unfold dnRows
  pointwise
  have hn : K.val % 8 < 8 := by omega
  have key := unpack_toInt (bitcast S1856x128 32 (shapeCast S7424x128 ct (by decide)) (by decide) (ix2 ⟨K.val / 8, by omega⟩ c)) (K.val % 8) hn
    (ct (ix3 ⟨K.val / 32, by omega⟩ ⟨K.val % 32 / 2, by omega⟩ c)) (fun q hq => by
      refine (bitcast_8_32_getLsbD_ix2 _ _ _ c (8 * (K.val % 8 / 2) + q) (by omega) ⟨4 * (K.val / 8) + K.val % 8 / 2, by omega⟩
        (by show 4 * (K.val / 8) + K.val % 8 / 2 = 4 * (K.val / 8) + (8 * (K.val % 8 / 2) + q) / 8; omega)).trans ?_
      rw [show (8 * (K.val % 8 / 2) + q) % 8 = q by omega]
      congr 1
      pointwise
      exact congrArg ct (by congr 1 <;> apply Fin.ext <;> simp <;> omega))
  rw [show K.val % 8 % 2 = K.val % 32 % 2 by omega] at key
  rw [← key]
  have e : IntOp.subi (28#32) (IntOp.muli (4#32) (BitVec.ofNat 32 (K.val % 8))) = BitVec.ofNat 32 (28 - 4 * (K.val % 8)) := nibble_shift _ hn
  rw [e]
  rfl

theorem slices_down (i : Fin 232) : S14848x128.Slices ![64 * i.val, 0] S64x128 :=
  ⟨rfl, fun a => by match a with
    | ⟨0, _⟩ => show 64 * i.val + 64 ≤ 14848; omega
    | ⟨1, _⟩ => show 0 + 128 ≤ 128; omega⟩

/-- One row of scales over 16 rows. -/
def scale16 (r : FVec F S1x128 .f32) : FVec F S16x128 .bf16 :=
  truncf .bf16 (broadcastTo S16x128 (shapeCast S1x128 r (by decide)) (by decide)) (by decide)

theorem concat_scales : Shape.Concatenates [S16x128, S16x128, S16x128, S16x128] S64x128 0 := by decide

/-- One 64-row piece of a down tile: two groups of 32 rows, each times its row of scales. -/
def dnPiece (q : IVec S14848x128 32) (r0 r1 : FVec F S1x128 .f32) (i : Fin 232) : FVec F S64x128 .bf16 :=
  mulf (sitofp .bf16 (extractStridedSlice S64x128 ![64 * i.val, 0] q (slices_down i)))
    (concatenate S64x128 0 [⟨S16x128, scale16 r0⟩, ⟨S16x128, scale16 r0⟩, ⟨S16x128, scale16 r1⟩, ⟨S16x128, scale16 r1⟩] concat_scales)

/-- 128 columns of the unpacked down weights. -/
def dnCol (ct : IVec S464x16x128 8) (r : Fin 464 → FVec F S1x128 .f32) : FVec F S14848x128 .bf16 :=
  column 232 14848 (fun i => dnPiece (dnRows ct) (r ⟨2 * i.val, by omega⟩) (r ⟨2 * i.val + 1, by omega⟩) i) (concat_ok 232 14848 (by decide) rfl _)

/-- The block down stores. -/
def dnBlock (a : FVec F S16x14848 .bf16) (c : Fin 2 → IVec S464x16x128 8) (r : Fin 2 → Fin 464 → FVec F S1x128 .f32) (x : FVec F S16x256 .f32) : FVec F S16x256 .bf16 :=
  truncf .bf16 (addf x (matmul (DotDims.plain 16 14848 256) none a (wide 2 14848 256 (by decide) rfl fun nb => dnCol (c nb) (r nb))
    (constant S16x256 .f32 0x00000000#32))) (by decide)

theorem dnPiece_apply (q : IVec S14848x128 32) (r : Fin 464 → FVec Ideal S1x128 .f32) (i : Fin 232) (k : Fin 64) (c : Fin 128) :
    dnPiece q (r ⟨2 * i.val, by omega⟩) (r ⟨2 * i.val + 1, by omega⟩) i (ix2 k c)
      = (((q (ix2 ⟨64 * i.val + k.val, by omega⟩ c)).toInt : ℝ) : EReal) * r ⟨2 * i.val + k.val / 32, by omega⟩ (ix2 0 c) := by
  unfold dnPiece scale16
  pointwise
  refine congrArg (((((q (ix2 ⟨64 * i.val + k.val, by omega⟩ c)).toInt : ℝ) : EReal)) * ·) ?_
  split_ifs <;> exact congrArg (fun g => r g (ix2 0 c)) (Fin.ext (by simp only []; omega))

theorem dnCol_apply (ct : IVec S464x16x128 8) (r : Fin 464 → FVec Ideal S1x128 .f32) (K : Fin 14848) (c : Fin 128) :
    dnCol ct r (ix2 K c)
      = ((code (ct (ix3 ⟨K.val / 32, by omega⟩ ⟨K.val % 32 / 2, by omega⟩ c)) (K.val % 32 % 2) : ℝ) : EReal) * r ⟨K.val / 32, by omega⟩ (ix2 0 c) := by
  have hK : K.val / 64 < 232 := by omega
  rw [dnCol, column_apply (hN := hK), dnPiece_apply, dnRows_toInt]
  have e2 : (⟨2 * (K.val / 64) + K.val % 64 / 32, by omega⟩ : Fin 464) = ⟨K.val / 32, by omega⟩ := Fin.ext (by show 2 * (K.val / 64) + K.val % 64 / 32 = K.val / 32; omega)
  have e3 : 64 * (K.val / 64) + K.val % 64 = K.val := by omega
  simp only [e3, e2]

/-- Down's block at an element. -/
theorem dnBlock_apply (a : FVec Ideal S16x14848 .bf16) (ct : Fin 2 → IVec S464x16x128 8) (r : Fin 2 → Fin 464 → FVec Ideal S1x128 .f32)
    (x : FVec Ideal S16x256 .f32) (m : Fin 16) (n : Fin 256) :
    dnBlock a ct r x (ix2 m n)
      = x (ix2 m n) + ∑ K : Fin 14848, a (ix2 m K)
          * (((code (ct ⟨n.val / 128, by omega⟩ (ix3 ⟨K.val / 32, by omega⟩ ⟨K.val % 32 / 2, by omega⟩ ⟨n.val % 128, by omega⟩)) (K.val % 32 % 2) : ℝ) : EReal)
            * r ⟨n.val / 128, by omega⟩ ⟨K.val / 32, by omega⟩ (ix2 0 ⟨n.val % 128, by omega⟩)) := by
  unfold dnBlock
  pointwise
  refine congrArg (x (ix2 m n) + ·) (Finset.sum_congr rfl fun K _ => congrArg (a (ix2 m K) * ·) ?_)
  rw [wide_apply, dnCol_apply]

end Cert.Proof.Q4
-- ==== Proof.DownTerm.lean ====
/-
  Down: the value that one grid point stores, as one term.
-/
module

public import proofs.«01_k».proof.Proof.Gen.KernelIdeal.Frame.Region4
public import proofs.«01_k».proof.Proof.Down
public import Idealize.ShloMosaic.Lib.Pipeline.ValueKit

@[expose] public section

set_option maxRecDepth 65536

noncomputable section

namespace Cert.KernelIdeal.Gen

open Idealize.ShloMosaic Idealize.ShloMosaic.TcCoe
open Cert.Proof.Q4 (dnBlock dnBlock_apply code)
open Idealize.ShloMosaic.Pipeline (Dat Cfg Window)

section Any
variable {F : FTy → Type} [FloatOps F]

theorem inb_row (nt : Fin 2) (g : Fin 464) : ∀ a, (![g.val, 128 * nt.val] : Fin S464x256.rank → Nat) a + S1x128.size a ≤ S464x256.size a := fun a => by
  match a with
  | ⟨0, _⟩ => show g.val + 1 ≤ 464; omega
  | ⟨1, _⟩ => show 128 * nt.val + 128 ≤ 256; omega

/-- Row `g` of the scales, 128 columns, read from the scratch the kernel filled with them. -/
def dnRow (v : View sig .tc .vmem S464x256 .f32) (L : List (View.Piece (Elt F) S464x256 .f32)) (nt : Fin 2) (g : Fin 464) : FVec F S1x128 .f32 :=
  v.readCov L (Rect.unit (s := S464x256) ![g.val, 128 * nt.val] S1x128.size (inb_row nt g)).toLoadRect

set_option maxHeartbeats 40000000 in
theorem pay4_term (c : Dev nD) (arg1 : Memref sig .tc .vmem S16x14848 .bf16) (harg1 : arg1.IsWhole) (arg2 : Memref sig .tc .vmem S464x16x128 .i8) (harg2 : arg2.IsWhole) (arg3 : Memref sig .tc .vmem S464x16x128 .i8) (harg3 : arg3.IsWhole) (arg4 : Memref sig .tc .vmem S464x256 .bf16) (harg4 : arg4.IsWhole) (arg5 : Memref sig .tc .vmem S16x256 .f32) (harg5 : arg5.IsWhole) (arg7 : Memref sig .tc .vmem S464x256 .f32)
    (x0 : Vec F S16x14848 .bf16) (x1 : Vec F S464x16x128 .i8) (x2 : Vec F S464x16x128 .i8) (x3 : Vec F S464x256 .bf16) (x4 : Vec F S16x256 .f32) :
    k4_pay1 (kernelRun4_A.sl.r_677 c arg1 harg1 arg2 harg2 arg3 harg3 arg4 harg4 arg5 harg5 arg7 x0 x1 x2 x3 x4)
      = dnBlock (shapeCast S16x14848 (View.readAt (Elt F) arg1.view (Rect.unit ![0, 0] S16x14848.size inb_S16x14848_S16x14848_0_0).toLoadRect (harg1.unread x0)) shapeCasts_S16x14848_S16x14848)
          ![shapeCast S464x16x128 (View.readAt (Elt F) arg2.view (Rect.unit ![0, 0, 0] S464x16x128.size inb_S464x16x128_S464x16x128_0_0_0).toLoadRect (harg2.unread x1)) shapeCasts_S464x16x128_S464x16x128,
            shapeCast S464x16x128 (View.readAt (Elt F) arg3.view (Rect.unit ![0, 0, 0] S464x16x128.size inb_S464x16x128_S464x16x128_0_0_0).toLoadRect (harg3.unread x2)) shapeCasts_S464x16x128_S464x16x128]
          (dnRow arg7.view (kernelRun4_A.sl.HS0_1 c arg4 harg4 x3))
          (shapeCast S16x256 (View.readAt (Elt F) arg5.view (Rect.unit ![0, 0] S16x256.size inb_S16x256_S16x256_0_0).toLoadRect (harg5.unread x4)) shapeCasts_S16x256_S16x256) := by
  rfl

end Any
end Cert.KernelIdeal.Gen
-- ==== Proof.Region4.lean ====
/-
  Down: what one grid point leaves in its block, and the array after all points.
-/
module

public import proofs.«01_k».proof.Proof.DownTerm
public import Idealize.ShloMosaic.Lib.Pipeline.ReadBack

@[expose] public section

set_option maxRecDepth 16384

noncomputable section

namespace Cert.KernelIdeal.Gen

open Idealize.ShloMosaic Idealize.ShloMosaic.TcCoe
open Cert.Proof.Q4 (dnBlock dnBlock_apply code)
open Idealize.ShloMosaic.Pipeline (Dat Cfg Window)

/-- A load of a whole block, its shape kept. -/
theorem load_whole {s : Shape} {e : EltTy} (mr : Memref sig .tc .vmem s e) (h : mr.IsWhole) (x : Vec Ideal s e) (off : Fin s.rank → Nat)
    (ho : off = fun _ => 0) (inb : ∀ a, off a + s.size a ≤ s.size a) (hs : s.ShapeCasts s) :
    shapeCast s (View.readAt (Elt Ideal) mr.view (Rect.unit off s.size inb).toLoadRect (h.unread x)) hs = x := by
  rw [View.readAt_eq_ld, h.read_unread, View.ld_unit_zero ho]
  exact shapeCast_self x hs

/-- A row of the scales read back from the scratch. -/
theorem dnRow_eq (c : Dev nD) (arg4 : Memref sig .tc .vmem S464x256 .bf16) (harg4 : arg4.IsWhole) (v : View sig .tc .vmem S464x256 .f32) (x3 : Vec Ideal S464x256 .bf16)
    (nt : Fin 2) (g : Fin 464) (b : Fin 128) :
    dnRow (F := Ideal) v (kernelRun4_A.sl.HS0_1 c arg4 harg4 x3) nt g (ix2 0 b) = x3 (ix2 g ⟨128 * nt.val + b.val, by omega⟩) := by
  unfold dnRow kernelRun4_A.sl.HS0_1
  rw [View.readCov_fill _ _ _ _ _ (by decide)]
  refine (View.ld_unit_apply_of _ _ _ _ _ (ix2 g ⟨128 * nt.val + b.val, by omega⟩) (fun a => by
    match a with
    | ⟨0, _⟩ => rfl
    | ⟨1, _⟩ => rfl)).trans ?_
  unfold k4_pay2
  refine (congrFun (shapeCast_self _ _) _).trans ?_
  exact congrFun (load_whole arg4 harg4 x3 _ (funext fun a => by fin_cases a <;> rfl) _ _) _

theorem out4_term (c : Dev nD) (i : grid4.Coords) (arg1 : Memref sig .tc .vmem S16x14848 .bf16) (harg1 : arg1.IsWhole) (arg2 : Memref sig .tc .vmem S464x16x128 .i8) (harg2 : arg2.IsWhole) (arg3 : Memref sig .tc .vmem S464x16x128 .i8) (harg3 : arg3.IsWhole) (arg4 : Memref sig .tc .vmem S464x256 .bf16) (harg4 : arg4.IsWhole) (arg5 : Memref sig .tc .vmem S16x256 .f32) (harg5 : arg5.IsWhole) (arg6 : Memref sig .tc .vmem S16x256 .bf16) (harg6 : arg6.IsWhole) (arg7 : Memref sig .tc .vmem S464x256 .f32) (harg7 : arg7.IsWhole)
    (x0 : Vec Ideal S16x14848 .bf16) (x1 : Vec Ideal S464x16x128 .i8) (x2 : Vec Ideal S464x16x128 .i8) (x3 : Vec Ideal S464x256 .bf16) (x4 : Vec Ideal S16x256 .f32) :
    out4_A_5 (F := Ideal) c i arg1 harg1 arg2 harg2 arg3 harg3 arg4 harg4 arg5 harg5 arg6 harg6 arg7 harg7 x0 x1 x2 x3 x4
      = dnBlock (F := Ideal) x0 ![x1, x2] (dnRow arg7.view (kernelRun4_A.sl.HS0_1 c arg4 harg4 x3)) x4 := by
  unfold out4_A_5
  rw [View.read_writes_junk_eq_canon]
  unfold kernelRun4_A
  dsimp only
  rw [View.canon_unit_zero (funext fun a => by fin_cases a <;> rfl), pay4_term]
  rw [load_whole arg1 harg1 x0 _ (funext fun a => by fin_cases a <;> rfl), load_whole arg2 harg2 x1 _ (funext fun a => by fin_cases a <;> rfl),
    load_whole arg3 harg3 x2 _ (funext fun a => by fin_cases a <;> rfl), load_whole arg5 harg5 x4 _ (funext fun a => by fin_cases a <;> rfl)]

/-- Down on whole arrays, with the residual: codes as bytes `(group, byte, output)`, scales as `(group, output)`. -/
def dnArr (a : FVec Ideal S16x14848 .bf16) (ct : IVec S464x16x8192 8) (s : FVec Ideal S464x8192 .bf16) (x : FVec Ideal S16x8192 .f32) :
    FVec Ideal S16x8192 .bf16 := fun j =>
  x j + ∑ K : Fin 14848, a (ix2 (j 0) K)
    * (((code (ct (ix3 ⟨K.val / 32, by omega⟩ ⟨K.val % 32 / 2, by omega⟩ (j 1))) (K.val % 32 % 2) : ℝ) : EReal)
      * s (ix2 ⟨K.val / 32, by omega⟩ (j 1)))

/-- The block indices of the windows at a point. -/
theorem idx4 : ∀ t : Fin grid4.N, win4_0.index t = ![0, 0] ∧ win4_1.index t = ![0, 0, 2 * t.val] ∧ win4_2.index t = ![0, 0, 2 * t.val + 1]
    ∧ win4_3.index t = ![0, t.val] ∧ win4_4.index t = ![0, t.val] ∧ win4_5.index t = ![0, t.val] := by
  decide +kernel

set_option maxHeartbeats 4000000 in
/-- After the region its array is down of the arrays it read. -/
theorem arr4 (V : (c : Dev nD) → (b : Ref sig .tc) → b.ty.Contents (Elt Ideal)) (c : Dev nD) :
    (dat4 V c).arrAt 5 cfg4.N
      = dnArr (V c (Pipeline.arrRef spec4 0)) (V c (Pipeline.arrRef spec4 1)) (V c (Pipeline.arrRef spec4 3)) (V c (Pipeline.arrRef spec4 4)) := by
  refine (dat4 V c).arrAt_eq_of_covers 5 _ (by decide +kernel) fun t hf y => ?_
  blk_simp
  rw [after4_5, outsAt4, out4_term]
  obtain ⟨m, n, rfl⟩ : ∃ (m : Fin 16) (n : Fin 256), y = ix2 m n := ⟨y 0, y 1, funext fun a => by fin_cases a <;> rfl⟩
  refine (dnBlock_apply _ _ _ _ m n).trans ?_
  unfold dnArr
  refine congrArg₂ (· + ·) ?_ (Finset.sum_congr rfl fun K _ => congrArg₂ (· * ·) ?_ (congrArg₂ (· * ·) (congrArg (fun b => ((code b (K.val % 32 % 2) : ℝ) : EReal)) ?_) ((dnRow_eq _ _ _ _ _ _ _ _).trans ?_)))
  · blk_ext [iblk4, idx4 t]
  · blk_ext [iblk4, idx4 t]
  · rcases (by omega : n.val / 128 = 0 ∨ n.val / 128 = 1) with h | h
    · rw [show (⟨n.val / 128, by omega⟩ : Fin 2) = 0 from Fin.ext h]
      show iblk4 V c 1 t _ = _
      blk_ext [iblk4, idx4 t]
    · rw [show (⟨n.val / 128, by omega⟩ : Fin 2) = 1 from Fin.ext h]
      show iblk4 V c 2 t _ = _
      blk_ext [iblk4, idx4 t]
  · blk_ext [iblk4, idx4 t]

end Cert.KernelIdeal.Gen
-- ==== Proof.Spec.lean ====
/-
  The result of the attention output's layer, at an element, as plain mathematics: the output product onto the residual, the
  normalization, gate and up, and the down product onto the residual.
-/
module

public import proofs.«01_k».proof.Proof.Linear

@[expose] public section

noncomputable section

namespace Cert.Proof.Q4

open Idealize.ShloMosaic

/-- The residual after the output product. -/
def residual (o : (⟨3, ![16, 32, 128]⟩ : Shape).Idx → EReal) (x : (⟨3, ![16, 1, 8192]⟩ : Shape).Idx → EReal)
    (wc : (⟨3, ![8192, 128, 16]⟩ : Shape).Idx → BitVec 8) (ws : (⟨2, ![8192, 128]⟩ : Shape).Idx → EReal) : (⟨2, ![16, 8192]⟩ : Shape).Idx → EReal := fun j =>
  x (ix3 (j 0) 0 (j 1)) + lin wc ws (K := 4096) rfl (fun i => o (ix3 (i 0) ⟨(i 1).val / 128, by have := (i 1).isLt; change (i 1).val < 4096 at this; omega⟩ ⟨(i 1).val % 128, by omega⟩)) (j 0) (j 1)

/-- The root-mean-square normalization. -/
def normed (y : (⟨2, ![16, 8192]⟩ : Shape).Idx → EReal) (g : (⟨1, ![8192]⟩ : Shape).Idx → EReal) : (⟨2, ![16, 8192]⟩ : Shape).Idx → EReal := fun j =>
  y j * Ideal.rsqrt (Ideal.div (∑ k : Fin 8192, y (ix2 (j 0) k) * y (ix2 (j 0) k)) (Ideal.ofBits .f32 0x46000000#32) + Ideal.ofBits .f32 0x358637BD#32)
    * g (ix1 (j 1))

/-- Gate through the sigmoid-weighted unit, times up. -/
def hidden (h : (⟨2, ![16, 8192]⟩ : Shape).Idx → EReal) (gc uc : (⟨3, ![14848, 256, 16]⟩ : Shape).Idx → BitVec 8)
    (gs us : (⟨2, ![14848, 256]⟩ : Shape).Idx → EReal) : (⟨2, ![16, 14848]⟩ : Shape).Idx → EReal := fun j =>
  Ideal.div (lin gc gs (K := 8192) rfl h (j 0) (j 1)) (1 + Ideal.exp (-lin gc gs (K := 8192) rfl h (j 0) (j 1)))
    * lin uc us (K := 8192) rfl h (j 0) (j 1)

/-- The result. -/
def result (o : (⟨3, ![16, 32, 128]⟩ : Shape).Idx → EReal) (x : (⟨3, ![16, 1, 8192]⟩ : Shape).Idx → EReal) (g : (⟨1, ![8192]⟩ : Shape).Idx → EReal)
    (wc : (⟨3, ![8192, 128, 16]⟩ : Shape).Idx → BitVec 8) (ws : (⟨2, ![8192, 128]⟩ : Shape).Idx → EReal)
    (gc : (⟨3, ![14848, 256, 16]⟩ : Shape).Idx → BitVec 8) (gs : (⟨2, ![14848, 256]⟩ : Shape).Idx → EReal)
    (uc : (⟨3, ![14848, 256, 16]⟩ : Shape).Idx → BitVec 8) (us : (⟨2, ![14848, 256]⟩ : Shape).Idx → EReal)
    (dc : (⟨3, ![8192, 464, 16]⟩ : Shape).Idx → BitVec 8) (ds : (⟨2, ![8192, 464]⟩ : Shape).Idx → EReal) : (⟨2, ![16, 8192]⟩ : Shape).Idx → EReal := fun j =>
  residual o x wc ws j + lin dc ds (K := 14848) rfl (hidden (normed (residual o x wc ws) g) gc uc gs us) (j 0) (j 1)

end Cert.Proof.Q4
-- ==== Proof.Layer.lean ====
/-
  What the kernel's result array holds at the end: `Q4.result` of its arguments.
-/
module

public import proofs.«01_k».proof.Proof.Run
public import proofs.«01_k».proof.Proof.Region1
public import proofs.«01_k».proof.Proof.Region2
public import proofs.«01_k».proof.Proof.Region3
public import proofs.«01_k».proof.Proof.Region4
public import proofs.«01_k».proof.Proof.Spec

@[expose] public section

set_option maxRecDepth 16384

noncomputable section

namespace Cert.KernelIdeal.Gen

open Idealize.ShloMosaic Idealize.ShloMosaic.TcCoe
open Cert.Proof Cert.Proof.Q4

/-! ### The host's reshapes and transposes at an element -/

theorem flat_x (x : FVec Ideal S16x1x8192 .bf16) (i : Fin 16) (n : Fin 8192) : shapeCast S16x8192 x shapeCasts_S16x1x8192_S16x8192 (ix2 i n) = x (ix3 i 0 n) := by
  pointwise

theorem flat_o (x : FVec Ideal S16x32x128 .bf16) (i : Fin 16) (k : Fin 4096) :
    shapeCast S16x4096 x shapeCasts_S16x32x128_S16x4096 (ix2 i k) = x (ix3 i ⟨k.val / 128, by omega⟩ ⟨k.val % 128, by omega⟩) := by
  pointwise

theorem row_g (x : FVec Ideal S8192 .bf16) (n : Fin 8192) : shapeCast S1x8192 x shapeCasts_S8192_S1x8192 (ix2 0 n) = x (ix1 n) := by
  pointwise

theorem wo_codes (x : IVec S8192x128x16 8) (n : Fin 8192) (b : Fin 16) (g : Fin 128) :
    transpose S8192x16x128 [0, 2, 1] x transposes_S8192x128x16_S8192x16x128_0_2_1 (ix3 n b g) = x (ix3 n g b) := by
  pointwise

theorem gu_codes (x : IVec S14848x256x16 8) (n : Fin 14848) (b : Fin 16) (g : Fin 256) :
    transpose S14848x16x256 [0, 2, 1] x transposes_S14848x256x16_S14848x16x256_0_2_1 (ix3 n b g) = x (ix3 n g b) := by
  pointwise

theorem dn_codes (x : IVec S8192x464x16 8) (n : Fin 8192) (b : Fin 16) (g : Fin 464) :
    transpose S464x16x8192 [1, 2, 0] x transposes_S8192x464x16_S464x16x8192_1_2_0 (ix3 g b n) = x (ix3 n g b) := by
  pointwise

theorem dn_scales (x : FVec Ideal S8192x464 .bf16) (n : Fin 8192) (g : Fin 464) :
    transpose S464x8192 [1, 0] x transposes_S8192x464_S464x8192_1_0 (ix2 g n) = x (ix2 n g) := by
  pointwise

theorem unflat (x : FVec Ideal S16x8192 .bf16) (i : Fin 16) (u : Fin 1) (n : Fin 8192) : shapeCast S16x1x8192 x shapeCasts_S16x8192_S16x1x8192 (ix3 i u n) = x (ix2 i n) := by
  pointwise

/-- The kernel's normalization at an element. -/
theorem norm_apply (y : FVec Ideal S16x8192 .f32) (g : FVec Ideal S1x8192 .bf16) (g' : FVec Ideal S8192 .bf16) (hg : ∀ n : Fin 8192, g (ix2 0 n) = g' (ix1 n))
    (i : Fin 16) (n : Fin 8192) : k2_pay2 (F := Ideal) y g (ix2 i n) = normed y g' (ix2 i n) := by
  unfold k2_pay2 normed
  pointwise
  rw [hg]

variable (m : (ℓ : Loc nD τ sig) → Buf (Elt Ideal) ℓ) (ρ : Dev nD → PrngReg) (c : Dev nD)

/-- A code as an extended real depends on the byte and the half. -/
theorem code_congr {b b' : BitVec 8} {p p' : Nat} (hb : b = b') (hp : p = p') : ((code b p : ℝ) : EReal) = ((code b' p' : ℝ) : EReal) := by rw [hb, hp]

/-! ### The output product -/

theorem at_v0 : (V3 m ρ c main_v0 : FVec Ideal S16x8192 .bf16) = shapeCast S16x8192 (m ((c.tc : Thread nD τ).loc main_arg1)) shapeCasts_S16x1x8192_S16x8192 := by
  refine (W3_of m ρ c main_v0 (by decide)).trans ((W2_of m ρ c main_v0 (by decide +kernel)).trans ?_)
  show StableHlo.after hostOps0 (W0 m ρ c) (Proc.devRef .tc main_v0) = _
  entry_read
  rfl

theorem at_v1 : (V1 m ρ c main_v1 : FVec Ideal S16x4096 .bf16) = shapeCast S16x4096 (m ((c.tc : Thread nD τ).loc main_arg0)) shapeCasts_S16x32x128_S16x4096 := by
  show StableHlo.after hostOps0 (W0 m ρ c) (Proc.devRef .tc main_v1) = _
  entry_read
  rfl

theorem at_v2 (i : Fin 16) (K : Fin 4096) : (V3 m ρ c main_v2 : FVec Ideal S16x4096 .bf16) (ix2 i K) = (V1 m ρ c main_v1 : FVec Ideal S16x4096 .bf16) (ix2 i (natEquiv (T := 4096) rfl K)) := by
  refine (congrFun ((W3_of m ρ c main_v2 (by decide)).trans (W2_arr m ρ c 1)) _).trans ?_
  exact arr0 (V1 m ρ) c i K

theorem at_v3 : (V3 m ρ c main_v3 : IVec S8192x16x128 8) = transpose S8192x16x128 [0, 2, 1] (m ((c.tc : Thread nD τ).loc main_arg3)) transposes_S8192x128x16_S8192x16x128_0_2_1 := by
  show StableHlo.after hostOps1 (W2 m ρ c) (Proc.devRef .tc main_v3) = _
  entry_read
  exact congrArg (fun z => transpose S8192x16x128 [0, 2, 1] z transposes_S8192x128x16_S8192x16x128_0_2_1) (W2_args m ρ c main_arg3 (by decide))

theorem at_arg4 : V3 m ρ c main_arg4 = m ((c.tc : Thread nD τ).loc main_arg4) := W3_args m ρ c main_arg4 (by decide)

theorem residual_at : (V5 m ρ c main_v4 : FVec Ideal S16x8192 .f32)
    = Q4.residual (m ((c.tc : Thread nD τ).loc main_arg0)) (m ((c.tc : Thread nD τ).loc main_arg1)) (m ((c.tc : Thread nD τ).loc main_arg3)) (m ((c.tc : Thread nD τ).loc main_arg4)) := by
  refine (W5_of m ρ c main_v4 (by decide)).trans ((W4_arr m ρ c 4).trans ((arr1 (V3 m ρ) c).trans ?_))
  funext j
  obtain ⟨i, n, rfl⟩ : ∃ (i : Fin 16) (n : Fin 8192), j = ix2 i n := ⟨j 0, j 1, funext fun a => by fin_cases a <;> rfl⟩
  unfold woArr Q4.residual
  refine congrArg₂ (· + ·) ?_ ?_
  · exact (congrFun (at_v0 m ρ c) _).trans (flat_x _ i n)
  · refine Eq.trans ?_ (lin_reordered _ _ (K := 4096) rfl rfl _ i n)
    refine Finset.sum_congr rfl fun K _ => congrArg₂ (· * ·) ?_ (congrArg₂ (· * ·) (code_congr ?_ ?_) ?_)
    · exact (at_v2 m ρ c i K).trans ((congrFun (at_v1 m ρ c) _).trans (flat_o _ i _))
    · exact (congrFun (at_v3 m ρ c) _).trans (wo_codes _ n _ _)
    · show nat K.val % 32 % 2 = nat K.val % 2
      omega
    · exact congrFun (at_arg4 m ρ c) _

/-! ### The normalization -/

theorem at_v5 : (V5 m ρ c main_v5 : FVec Ideal S1x8192 .bf16) = shapeCast S1x8192 (m ((c.tc : Thread nD τ).loc main_arg2)) shapeCasts_S8192_S1x8192 := by
  show StableHlo.after hostOps2 (W4 m ρ c) (Proc.devRef .tc main_v5) = _
  entry_read
  exact congrArg (fun z => shapeCast S1x8192 z shapeCasts_S8192_S1x8192) (W4_args m ρ c main_arg2 (by decide))

theorem normed_at (i : Fin 16) (K : Fin 8192) : (V7 m ρ c main_v6 : FVec Ideal S16x8192 .bf16) (ix2 i K)
    = normed (V5 m ρ c main_v4 : FVec Ideal S16x8192 .f32) (m ((c.tc : Thread nD τ).loc main_arg2)) (ix2 i (natEquiv (T := 8192) rfl K)) := by
  refine (congrFun ((W7_of m ρ c main_v6 (by decide)).trans (W6_arr m ρ c 2)) _).trans ((arr2 (V5 m ρ) c i K).trans ?_)
  exact norm_apply _ _ _ (fun n => (congrFun (at_v5 m ρ c) _).trans (row_g _ n)) i _

/-! ### Gate and up -/

theorem at_v7 : (V7 m ρ c main_v7 : IVec S14848x16x256 8) = transpose S14848x16x256 [0, 2, 1] (m ((c.tc : Thread nD τ).loc main_arg5)) transposes_S14848x256x16_S14848x16x256_0_2_1 := by
  show StableHlo.after hostOps3 (W6 m ρ c) (Proc.devRef .tc main_v7) = _
  entry_read
  exact congrArg (fun z => transpose S14848x16x256 [0, 2, 1] z transposes_S14848x256x16_S14848x16x256_0_2_1) (W6_args m ρ c main_arg5 (by decide))

theorem at_v8 : (V7 m ρ c main_v8 : IVec S14848x16x256 8) = transpose S14848x16x256 [0, 2, 1] (m ((c.tc : Thread nD τ).loc main_arg7)) transposes_S14848x256x16_S14848x16x256_0_2_1 := by
  show StableHlo.after hostOps3 (W6 m ρ c) (Proc.devRef .tc main_v8) = _
  entry_read
  exact congrArg (fun z => transpose S14848x16x256 [0, 2, 1] z transposes_S14848x256x16_S14848x16x256_0_2_1) (W6_args m ρ c main_arg7 (by decide))

theorem at_arg6 : V7 m ρ c main_arg6 = m ((c.tc : Thread nD τ).loc main_arg6) := W7_args m ρ c main_arg6 (by decide)
theorem at_arg8 : V7 m ρ c main_arg8 = m ((c.tc : Thread nD τ).loc main_arg8) := W7_args m ρ c main_arg8 (by decide)

/-- One product of gate and up is the layer, its inputs in their natural order. -/
theorem guLin_eq (a h : FVec Ideal S16x8192 .bf16) (ct : IVec S14848x16x256 8) (codes : IVec S14848x256x16 8) (s s' : FVec Ideal S14848x256 .bf16)
    (ha : ∀ (i : Fin 16) (K : Fin 8192), a (ix2 i K) = h (ix2 i (natEquiv (T := 8192) rfl K)))
    (hc : ∀ (n : Fin 14848) (b : Fin 16) (g : Fin 256), ct (ix3 n b g) = codes (ix3 n g b)) (hs : s = s') (i : Fin 16) (n : Fin 14848) :
    guLin a ct s i n = lin codes s' (K := 8192) rfl h i n := by
  subst hs
  refine Eq.trans ?_ (lin_reordered _ _ (K := 8192) rfl rfl _ i n)
  refine Finset.sum_congr rfl fun K _ => congrArg₂ (· * ·) (ha i K) (congrArg₂ (· * ·) (code_congr (hc _ _ _) ?_) rfl)
  show nat K.val % 32 % 2 = nat K.val % 2
  omega

theorem hidden_at : (V9 m ρ c main_v9 : FVec Ideal S16x14848 .bf16)
    = Q4.hidden (normed (V5 m ρ c main_v4 : FVec Ideal S16x8192 .f32) (m ((c.tc : Thread nD τ).loc main_arg2)))
        (m ((c.tc : Thread nD τ).loc main_arg5)) (m ((c.tc : Thread nD τ).loc main_arg7)) (m ((c.tc : Thread nD τ).loc main_arg6)) (m ((c.tc : Thread nD τ).loc main_arg8)) := by
  refine (W9_of m ρ c main_v9 (by decide)).trans ((W8_arr m ρ c 7).trans ((arr3 (V7 m ρ) c).trans ?_))
  funext j
  obtain ⟨i, n, rfl⟩ : ∃ (i : Fin 16) (n : Fin 14848), j = ix2 i n := ⟨j 0, j 1, funext fun a => by fin_cases a <;> rfl⟩
  unfold guArr Q4.hidden
  have hg := guLin_eq _ _ _ _ _ _ (normed_at m ρ c) (fun n b g => (congrFun (at_v7 m ρ c) _).trans (gu_codes _ n b g)) (at_arg6 m ρ c) i n
  have hu := guLin_eq _ _ _ _ _ _ (normed_at m ρ c) (fun n b g => (congrFun (at_v8 m ρ c) _).trans (gu_codes _ n b g)) (at_arg8 m ρ c) i n
  refine congrArg₂ (· * ·) (congrArg₂ Ideal.div hg (congrArg (1 + ·) (congrArg Ideal.exp ?_))) hu
  exact (congrArg (0 - ·) hg).trans (zero_sub _)

/-! ### The down product -/

theorem at_v10 : (V9 m ρ c main_v10 : IVec S464x16x8192 8) = transpose S464x16x8192 [1, 2, 0] (m ((c.tc : Thread nD τ).loc main_arg9)) transposes_S8192x464x16_S464x16x8192_1_2_0 := by
  show StableHlo.after hostOps4 (W8 m ρ c) (Proc.devRef .tc main_v10) = _
  entry_read
  exact congrArg (fun z => transpose S464x16x8192 [1, 2, 0] z transposes_S8192x464x16_S464x16x8192_1_2_0) (W8_args m ρ c main_arg9 (by decide))

theorem at_v11 : (V9 m ρ c main_v11 : FVec Ideal S464x8192 .bf16) = transpose S464x8192 [1, 0] (m ((c.tc : Thread nD τ).loc main_arg10)) transposes_S8192x464_S464x8192_1_0 := by
  show StableHlo.after hostOps4 (W8 m ρ c) (Proc.devRef .tc main_v11) = _
  entry_read
  exact congrArg (fun z => transpose S464x8192 [1, 0] z transposes_S8192x464_S464x8192_1_0) (W8_args m ρ c main_arg10 (by decide))

theorem at_v4 : V9 m ρ c main_v4 = V5 m ρ c main_v4 :=
  (W9_of m ρ c main_v4 (by decide)).trans ((W8_of m ρ c main_v4 (by decide +kernel)).trans ((W7_of m ρ c main_v4 (by decide)).trans (W6_of m ρ c main_v4 (by decide +kernel))))

theorem result_at : (W10 m ρ c (Proc.devRef .tc main_v12) : FVec Ideal S16x8192 .bf16)
    = Q4.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10)) := by
  refine (W10_arr m ρ c 5).trans ((arr4 (V9 m ρ) c).trans ?_)
  funext j
  obtain ⟨i, n, rfl⟩ : ∃ (i : Fin 16) (n : Fin 8192), j = ix2 i n := ⟨j 0, j 1, funext fun a => by fin_cases a <;> rfl⟩
  unfold dnArr Q4.result
  rw [← residual_at m ρ c]
  refine congrArg₂ (· + ·) (congrFun (at_v4 m ρ c) _) (Finset.sum_congr rfl fun K _ => congrArg₂ (· * ·) ?_ (congrArg₂ (· * ·) (code_congr ?_ ?_) ?_))
  · exact congrFun (hidden_at m ρ c) _
  · exact (congrFun (at_v10 m ρ c) _).trans (dn_codes _ n _ _)
  · show K.val % 32 % 2 = K.val % 2
    omega
  · exact (congrFun (at_v11 m ρ c) _).trans (dn_scales _ n _)

/-- The result array at the end. -/
theorem result_end : (W11 m ρ c (Proc.devRef .tc main_v13) : FVec Ideal S16x1x8192 .bf16) = fun j =>
    Q4.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10))
      (ix2 (j 0) (j 2)) := by
  show StableHlo.after hostOps5 (W10 m ρ c) (Proc.devRef .tc main_v13) = _
  entry_read
  refine (congrArg (fun z => shapeCast S16x1x8192 z shapeCasts_S16x8192_S16x1x8192) (result_at m ρ c)).trans ?_
  generalize Q4.result _ _ _ _ _ _ _ _ _ _ _ = z
  funext j
  obtain ⟨i, u, n, rfl⟩ : ∃ (i : Fin 16) (u : Fin 1) (n : Fin 8192), j = ix3 i u n := ⟨j 0, j 1, j 2, funext fun a => by fin_cases a <;> rfl⟩
  exact unflat z i u n

end Cert.KernelIdeal.Gen
-- ==== Proof.RefLin.lean ====
/-
  Each linear layer of the reference is `Q4.lin`: its two weight halves are the low and the high codes, minus 8, times the scales.
-/
module

public import proofs.«01_k».proof.Proof.Gen.ReferenceIdeal.Run
public import proofs.«01_k».proof.Proof.Linear

@[expose] public section

noncomputable section

namespace Cert.ReferenceIdeal

open Idealize.ShloMosaic Cert.ReferenceIdeal.Gen Cert.Proof.Q4

theorem ofBits_eight : Ideal.ofBits .bf16 0x4100#16 = ((8 : ℝ) : EReal) := by
  simp [Ideal.ofBits, Ideal.ieee, -EReal.coe_mul]; norm_num

/-- A code less 8, as an extended real. -/
theorem sub_eight (z c : ℤ) (h : z - 8 = c) : ((z : ℝ) : EReal) - ((8 : ℝ) : EReal) = ((c : ℝ) : EReal) := by
  rw [← h, ← EReal.coe_sub]; push_cast; rfl

/-- The linear layer with 128 groups and 8192 outputs. -/
theorem lin_128 (a : FVec Ideal S16x4096 .bf16) (codes : IVec S8192x128x16 8) (s : FVec Ideal S8192x128 .bf16) (m : Fin 16) (n : Fin 8192) :
    (Host.dotGeneral dot_S2x16x128x16_S2x8192x128x16_S16x8192_230_230_1_1_n_n none
      (concatenate S2x16x128x16 0
        [⟨S1x16x128x16, broadcastInDim S1x16x128x16 ![1, 2, 3] bcast_S16x128x16_S1x16x128x16_1_2_3 (shapeCast _ (extractStridedSlice S16x128x16x1 ![0, 0, 0, 0] (shapeCast _ a shapeCasts_S16x4096_S16x128x16x2) slices_S16x128x16x2_S16x128x16x1_0_0_0_0) shapeCasts_S16x128x16x1_S16x128x16)⟩,
         ⟨S1x16x128x16, broadcastInDim S1x16x128x16 ![1, 2, 3] bcast_S16x128x16_S1x16x128x16_1_2_3 (shapeCast _ (extractStridedSlice S16x128x16x1 ![0, 0, 0, 1] (shapeCast _ a shapeCasts_S16x4096_S16x128x16x2) slices_S16x128x16x2_S16x128x16x1_0_0_0_1) shapeCasts_S16x128x16x1_S16x128x16)⟩]
        concatenates_S1x16x128x16_S1x16x128x16_S2x16x128x16_d0)
      (concatenate S2x8192x128x16 0
        [⟨S1x8192x128x16, broadcastInDim S1x8192x128x16 ![1, 2, 3] bcast_S8192x128x16_S1x8192x128x16_1_2_3 (mulf (subf (sitofp .bf16 (andi (extui 32 codes natLt_8_32) (broadcastInDim S8192x128x16 ![] bcast_S_S8192x128x16 (constantI S_ 32 15#32)))) (broadcastInDim S8192x128x16 ![] bcast_S_S8192x128x16 (constant S_ .bf16 0x4100#16))) (broadcastInDim S8192x128x16 ![0, 1, 2] bcast_S8192x128x1_S8192x128x16_0_1_2 (broadcastInDim S8192x128x1 ![0, 1] bcast_S8192x128_S8192x128x1_0_1 s)))⟩,
         ⟨S1x8192x128x16, broadcastInDim S1x8192x128x16 ![1, 2, 3] bcast_S8192x128x16_S1x8192x128x16_1_2_3 (mulf (subf (sitofp .bf16 (Host.shrsi (extui 32 codes natLt_8_32) (broadcastInDim S8192x128x16 ![] bcast_S_S8192x128x16 (constantI S_ 32 4#32)))) (broadcastInDim S8192x128x16 ![] bcast_S_S8192x128x16 (constant S_ .bf16 0x4100#16))) (broadcastInDim S8192x128x16 ![0, 1, 2] bcast_S8192x128x1_S8192x128x16_0_1_2 (broadcastInDim S8192x128x1 ![0, 1] bcast_S8192x128_S8192x128x1_0_1 s)))⟩]
        concatenates_S1x8192x128x16_S1x8192x128x16_S2x8192x128x16_d0) : FVec Ideal S16x8192 .f32) (ix2 m n)
      = lin codes s (K := 4096) rfl a m n := by
  refine pair_dot (N := 8192) (G := 128) dot_S2x16x128x16_S2x8192x128x16_S16x8192_230_230_1_1_n_n_wf rfl _ _ codes s a m n (fun k => ?_) (fun k => ?_)
  · obtain h | h : k.val % 2 = 0 ∨ k.val % 2 = 1 := by omega
    · simp only [h]
      pointwise
      exact congrArg (fun i => a (ix2 m i)) (Fin.ext (by show k.val / 32 * 32 + k.val % 32 / 2 * 2 = k.val; omega))
    · simp only [h]
      pointwise
      exact congrArg (fun i => a (ix2 m i)) (Fin.ext (by show k.val / 32 * 32 + (k.val % 32 / 2 * 2 + 1) = k.val; omega))
  · obtain h | h : k.val % 2 = 0 ∨ k.val % 2 = 1 := by omega
    · simp only [h, wt]
      pointwise
      rw [ofBits_eight]
      exact congrArg (· * _) (sub_eight _ _ (low_toInt _))
    · simp only [h, wt]
      pointwise
      rw [ofBits_eight]
      exact congrArg (· * _) (sub_eight _ _ (high_toInt _))

/-- The linear layer with 256 groups and 14848 outputs. -/
theorem lin_256 (a : FVec Ideal S16x8192 .bf16) (codes : IVec S14848x256x16 8) (s : FVec Ideal S14848x256 .bf16) (m : Fin 16) (n : Fin 14848) :
    (Host.dotGeneral dot_S2x16x256x16_S2x14848x256x16_S16x14848_230_230_1_1_n_n none
      (concatenate S2x16x256x16 0
        [⟨S1x16x256x16, broadcastInDim S1x16x256x16 ![1, 2, 3] bcast_S16x256x16_S1x16x256x16_1_2_3 (shapeCast _ (extractStridedSlice S16x256x16x1 ![0, 0, 0, 0] (shapeCast _ a shapeCasts_S16x8192_S16x256x16x2) slices_S16x256x16x2_S16x256x16x1_0_0_0_0) shapeCasts_S16x256x16x1_S16x256x16)⟩,
         ⟨S1x16x256x16, broadcastInDim S1x16x256x16 ![1, 2, 3] bcast_S16x256x16_S1x16x256x16_1_2_3 (shapeCast _ (extractStridedSlice S16x256x16x1 ![0, 0, 0, 1] (shapeCast _ a shapeCasts_S16x8192_S16x256x16x2) slices_S16x256x16x2_S16x256x16x1_0_0_0_1) shapeCasts_S16x256x16x1_S16x256x16)⟩]
        concatenates_S1x16x256x16_S1x16x256x16_S2x16x256x16_d0)
      (concatenate S2x14848x256x16 0
        [⟨S1x14848x256x16, broadcastInDim S1x14848x256x16 ![1, 2, 3] bcast_S14848x256x16_S1x14848x256x16_1_2_3 (mulf (subf (sitofp .bf16 (andi (extui 32 codes natLt_8_32) (broadcastInDim S14848x256x16 ![] bcast_S_S14848x256x16 (constantI S_ 32 15#32)))) (broadcastInDim S14848x256x16 ![] bcast_S_S14848x256x16 (constant S_ .bf16 0x4100#16))) (broadcastInDim S14848x256x16 ![0, 1, 2] bcast_S14848x256x1_S14848x256x16_0_1_2 (broadcastInDim S14848x256x1 ![0, 1] bcast_S14848x256_S14848x256x1_0_1 s)))⟩,
         ⟨S1x14848x256x16, broadcastInDim S1x14848x256x16 ![1, 2, 3] bcast_S14848x256x16_S1x14848x256x16_1_2_3 (mulf (subf (sitofp .bf16 (Host.shrsi (extui 32 codes natLt_8_32) (broadcastInDim S14848x256x16 ![] bcast_S_S14848x256x16 (constantI S_ 32 4#32)))) (broadcastInDim S14848x256x16 ![] bcast_S_S14848x256x16 (constant S_ .bf16 0x4100#16))) (broadcastInDim S14848x256x16 ![0, 1, 2] bcast_S14848x256x1_S14848x256x16_0_1_2 (broadcastInDim S14848x256x1 ![0, 1] bcast_S14848x256_S14848x256x1_0_1 s)))⟩]
        concatenates_S1x14848x256x16_S1x14848x256x16_S2x14848x256x16_d0) : FVec Ideal S16x14848 .f32) (ix2 m n)
      = lin codes s (K := 8192) rfl a m n := by
  refine pair_dot (N := 14848) (G := 256) dot_S2x16x256x16_S2x14848x256x16_S16x14848_230_230_1_1_n_n_wf rfl _ _ codes s a m n (fun k => ?_) (fun k => ?_)
  · obtain h | h : k.val % 2 = 0 ∨ k.val % 2 = 1 := by omega
    · simp only [h]
      pointwise
      exact congrArg (fun i => a (ix2 m i)) (Fin.ext (by show k.val / 32 * 32 + k.val % 32 / 2 * 2 = k.val; omega))
    · simp only [h]
      pointwise
      exact congrArg (fun i => a (ix2 m i)) (Fin.ext (by show k.val / 32 * 32 + (k.val % 32 / 2 * 2 + 1) = k.val; omega))
  · obtain h | h : k.val % 2 = 0 ∨ k.val % 2 = 1 := by omega
    · simp only [h, wt]
      pointwise
      rw [ofBits_eight]
      exact congrArg (· * _) (sub_eight _ _ (low_toInt _))
    · simp only [h, wt]
      pointwise
      rw [ofBits_eight]
      exact congrArg (· * _) (sub_eight _ _ (high_toInt _))

/-- The linear layer with 464 groups and 8192 outputs. -/
theorem lin_464 (a : FVec Ideal S16x14848 .bf16) (codes : IVec S8192x464x16 8) (s : FVec Ideal S8192x464 .bf16) (m : Fin 16) (n : Fin 8192) :
    (Host.dotGeneral dot_S2x16x464x16_S2x8192x464x16_S16x8192_230_230_1_1_n_n none
      (concatenate S2x16x464x16 0
        [⟨S1x16x464x16, broadcastInDim S1x16x464x16 ![1, 2, 3] bcast_S16x464x16_S1x16x464x16_1_2_3 (shapeCast _ (extractStridedSlice S16x464x16x1 ![0, 0, 0, 0] (shapeCast _ a shapeCasts_S16x14848_S16x464x16x2) slices_S16x464x16x2_S16x464x16x1_0_0_0_0) shapeCasts_S16x464x16x1_S16x464x16)⟩,
         ⟨S1x16x464x16, broadcastInDim S1x16x464x16 ![1, 2, 3] bcast_S16x464x16_S1x16x464x16_1_2_3 (shapeCast _ (extractStridedSlice S16x464x16x1 ![0, 0, 0, 1] (shapeCast _ a shapeCasts_S16x14848_S16x464x16x2) slices_S16x464x16x2_S16x464x16x1_0_0_0_1) shapeCasts_S16x464x16x1_S16x464x16)⟩]
        concatenates_S1x16x464x16_S1x16x464x16_S2x16x464x16_d0)
      (concatenate S2x8192x464x16 0
        [⟨S1x8192x464x16, broadcastInDim S1x8192x464x16 ![1, 2, 3] bcast_S8192x464x16_S1x8192x464x16_1_2_3 (mulf (subf (sitofp .bf16 (andi (extui 32 codes natLt_8_32) (broadcastInDim S8192x464x16 ![] bcast_S_S8192x464x16 (constantI S_ 32 15#32)))) (broadcastInDim S8192x464x16 ![] bcast_S_S8192x464x16 (constant S_ .bf16 0x4100#16))) (broadcastInDim S8192x464x16 ![0, 1, 2] bcast_S8192x464x1_S8192x464x16_0_1_2 (broadcastInDim S8192x464x1 ![0, 1] bcast_S8192x464_S8192x464x1_0_1 s)))⟩,
         ⟨S1x8192x464x16, broadcastInDim S1x8192x464x16 ![1, 2, 3] bcast_S8192x464x16_S1x8192x464x16_1_2_3 (mulf (subf (sitofp .bf16 (Host.shrsi (extui 32 codes natLt_8_32) (broadcastInDim S8192x464x16 ![] bcast_S_S8192x464x16 (constantI S_ 32 4#32)))) (broadcastInDim S8192x464x16 ![] bcast_S_S8192x464x16 (constant S_ .bf16 0x4100#16))) (broadcastInDim S8192x464x16 ![0, 1, 2] bcast_S8192x464x1_S8192x464x16_0_1_2 (broadcastInDim S8192x464x1 ![0, 1] bcast_S8192x464_S8192x464x1_0_1 s)))⟩]
        concatenates_S1x8192x464x16_S1x8192x464x16_S2x8192x464x16_d0) : FVec Ideal S16x8192 .f32) (ix2 m n)
      = lin codes s (K := 14848) rfl a m n := by
  refine pair_dot (N := 8192) (G := 464) dot_S2x16x464x16_S2x8192x464x16_S16x8192_230_230_1_1_n_n_wf rfl _ _ codes s a m n (fun k => ?_) (fun k => ?_)
  · obtain h | h : k.val % 2 = 0 ∨ k.val % 2 = 1 := by omega
    · simp only [h]
      pointwise
      exact congrArg (fun i => a (ix2 m i)) (Fin.ext (by show k.val / 32 * 32 + k.val % 32 / 2 * 2 = k.val; omega))
    · simp only [h]
      pointwise
      exact congrArg (fun i => a (ix2 m i)) (Fin.ext (by show k.val / 32 * 32 + (k.val % 32 / 2 * 2 + 1) = k.val; omega))
  · obtain h | h : k.val % 2 = 0 ∨ k.val % 2 = 1 := by omega
    · simp only [h, wt]
      pointwise
      rw [ofBits_eight]
      exact congrArg (· * _) (sub_eight _ _ (low_toInt _))
    · simp only [h, wt]
      pointwise
      rw [ofBits_eight]
      exact congrArg (· * _) (sub_eight _ _ (high_toInt _))

end Cert.ReferenceIdeal
-- ==== Proof.RefSpec.lean ====
/-
  The reference's result is `Q4.result` of its arguments.
-/
module

public import proofs.«01_k».proof.Proof.RefLin
public import proofs.«01_k».proof.Proof.Spec

@[expose] public section

set_option maxRecDepth 16384

noncomputable section

namespace Cert.ReferenceIdeal

open Idealize.ShloMosaic Idealize.ShloMosaic.TcCoe Cert.ReferenceIdeal.Gen Cert.ReferenceIdeal.Value Cert.Proof.Q4 Cert.Proof
open Idealize.SL Idealize.SL.Sem

variable (V : Valuation τ sig (Elt Ideal))

theorem residual_eq : (res_main_v31 V : FVec Ideal S16x8192 .f32)
    = Q4.residual (V (Proc.devRef .tc main_arg0)) (V (Proc.devRef .tc main_arg1)) (V (Proc.devRef .tc main_arg3)) (V (Proc.devRef .tc main_arg4)) := by
  funext j
  obtain ⟨m, n, rfl⟩ : ∃ (m : Fin 16) (n : Fin 8192), j = ix2 m n := ⟨j 0, j 1, funext fun a => by fin_cases a <;> rfl⟩
  unfold res_main_v31 Cert.Proof.Q4.residual
  refine congrArg₂ (· + ·) ?_ ((lin_128 _ _ _ m n).trans ?_)
  · pointwise
  · unfold lin
    refine Finset.sum_congr rfl fun k _ => congrArg (· * _) ?_
    pointwise

theorem normed_eq : (res_main_v46 V : FVec Ideal S16x8192 .bf16) = normed (res_main_v31 V : FVec Ideal S16x8192 .f32) (V (Proc.devRef .tc main_arg2)) := by
  funext j
  obtain ⟨m, n, rfl⟩ : ∃ (m : Fin 16) (n : Fin 8192), j = ix2 m n := ⟨j 0, j 1, funext fun a => by fin_cases a <;> rfl⟩
  unfold res_main_v46 normed
  generalize (res_main_v31 V : FVec Ideal S16x8192 .f32) = y
  pointwise

theorem gate_eq (m : Fin 16) (n : Fin 14848) : (res_main_v74 V : FVec Ideal S16x14848 .f32) (ix2 m n)
    = lin (V (Proc.devRef .tc main_arg5)) (V (Proc.devRef .tc main_arg6)) (K := 8192) rfl (res_main_v46 V : FVec Ideal S16x8192 .bf16) m n := by
  unfold res_main_v74
  exact lin_256 _ _ _ m n

/-- The divisor of the unit is not zero. -/
theorem one_add_exp_ne_zero (x : EReal) : (1 : EReal) + Ideal.exp x ≠ 0 := by
  have h0 : (0 : EReal) ≤ Ideal.exp x := by
    induction x with
    | bot => exact le_refl _
    | top => exact le_top
    | coe r => exact EReal.coe_nonneg.mpr (Real.exp_pos r).le
  have h1 : (1 : EReal) ≤ 1 + Ideal.exp x := le_add_of_nonneg_right h0
  intro e; rw [e] at h1; exact absurd h1 (by simp)

/-- The reference's unit times up, at an element. -/
theorem silu_apply (g u : FVec Ideal S16x14848 .f32) (m : Fin 16) (n : Fin 14848) :
    (truncf .bf16 (mulf (mulf g (Host.divf (broadcastInDim S16x14848 ![] bcast_S_S16x14848 (constant S_ .f32 0x3F800000#32))
      (addf (broadcastInDim S16x14848 ![] bcast_S_S16x14848 (constant S_ .f32 0x3F800000#32)) (Host.exp (Host.negf g))))) u) bitsLt_bf16_f32 : FVec Ideal S16x14848 .bf16) (ix2 m n)
      = Ideal.div (g (ix2 m n)) (1 + Ideal.exp (-g (ix2 m n))) * u (ix2 m n) := by
  pointwise
  rw [Ideal.mul_one_div (one_add_exp_ne_zero _)]

theorem unflat (x : FVec Ideal S16x8192 .bf16) : shapeCast S16x1x8192 x shapeCasts_S16x8192_S16x1x8192 = fun j => x (ix2 (j 0) (j 2)) := by
  funext j
  obtain ⟨i, u, n, rfl⟩ : ∃ (i : Fin 16) (u : Fin 1) (n : Fin 8192), j = ix3 i u n := ⟨j 0, j 1, j 2, funext fun a => by fin_cases a <;> rfl⟩
  pointwise

/-- The linear layer with 464 groups, its three operands named. -/
theorem lin_464_of (a : FVec Ideal S16x14848 .bf16) (codes : IVec S8192x464x16 8) (s : FVec Ideal S8192x464 .bf16) (X : FVec Ideal S16x464x16x2 .bf16)
    (D : IVec S8192x464x16 32) (T : FVec Ideal S8192x464x1 .bf16) (hX : X = shapeCast _ a shapeCasts_S16x14848_S16x464x16x2)
    (hD : D = extui 32 codes natLt_8_32) (hT : T = (broadcastInDim S8192x464x1 ![0, 1] bcast_S8192x464_S8192x464x1_0_1 s)) (m : Fin 16) (n : Fin 8192) :
    (Host.dotGeneral dot_S2x16x464x16_S2x8192x464x16_S16x8192_230_230_1_1_n_n none
      (concatenate S2x16x464x16 0
        [⟨S1x16x464x16, broadcastInDim S1x16x464x16 ![1, 2, 3] bcast_S16x464x16_S1x16x464x16_1_2_3 (shapeCast _ (extractStridedSlice S16x464x16x1 ![0, 0, 0, 0] X slices_S16x464x16x2_S16x464x16x1_0_0_0_0) shapeCasts_S16x464x16x1_S16x464x16)⟩,
         ⟨S1x16x464x16, broadcastInDim S1x16x464x16 ![1, 2, 3] bcast_S16x464x16_S1x16x464x16_1_2_3 (shapeCast _ (extractStridedSlice S16x464x16x1 ![0, 0, 0, 1] X slices_S16x464x16x2_S16x464x16x1_0_0_0_1) shapeCasts_S16x464x16x1_S16x464x16)⟩]
        concatenates_S1x16x464x16_S1x16x464x16_S2x16x464x16_d0)
      (concatenate S2x8192x464x16 0
        [⟨S1x8192x464x16, broadcastInDim S1x8192x464x16 ![1, 2, 3] bcast_S8192x464x16_S1x8192x464x16_1_2_3 (mulf (subf (sitofp .bf16 (andi D (broadcastInDim S8192x464x16 ![] bcast_S_S8192x464x16 (constantI S_ 32 15#32)))) (broadcastInDim S8192x464x16 ![] bcast_S_S8192x464x16 (constant S_ .bf16 0x4100#16))) (broadcastInDim S8192x464x16 ![0, 1, 2] bcast_S8192x464x1_S8192x464x16_0_1_2 T))⟩,
         ⟨S1x8192x464x16, broadcastInDim S1x8192x464x16 ![1, 2, 3] bcast_S8192x464x16_S1x8192x464x16_1_2_3 (mulf (subf (sitofp .bf16 (Host.shrsi D (broadcastInDim S8192x464x16 ![] bcast_S_S8192x464x16 (constantI S_ 32 4#32)))) (broadcastInDim S8192x464x16 ![] bcast_S_S8192x464x16 (constant S_ .bf16 0x4100#16))) (broadcastInDim S8192x464x16 ![0, 1, 2] bcast_S8192x464x1_S8192x464x16_0_1_2 T))⟩]
        concatenates_S1x8192x464x16_S1x8192x464x16_S2x8192x464x16_d0) : FVec Ideal S16x8192 .f32) (ix2 m n)
      = lin codes s (K := 14848) rfl a m n := by
  subst hX hD hT
  exact lin_464 a codes s m n

/-- Gate and up after the unit, as the reference has it before the last reshape. -/
theorem act_split : ∃ A : FVec Ideal S16x14848 .bf16, (res_main_v106 V : FVec Ideal S16x464x16x2 .bf16) = shapeCast _ A shapeCasts_S16x14848_S16x464x16x2
    ∧ ∀ (i : Fin 16) (k : Fin 14848), A (ix2 i k) = Q4.hidden (normed (Q4.residual (V (Proc.devRef .tc main_arg0)) (V (Proc.devRef .tc main_arg1)) (V (Proc.devRef .tc main_arg3)) (V (Proc.devRef .tc main_arg4)))
            (V (Proc.devRef .tc main_arg2))) (V (Proc.devRef .tc main_arg5)) (V (Proc.devRef .tc main_arg7)) (V (Proc.devRef .tc main_arg6)) (V (Proc.devRef .tc main_arg8)) (ix2 i k) := by
  refine ⟨_, rfl, fun i k => (silu_apply _ _ i k).trans ?_⟩
  refine (congrArg₂ (fun a b : EReal => Ideal.div a (1 + Ideal.exp (-a)) * b) (gate_eq V i k) (?_ : _ = lin (V (Proc.devRef .tc main_arg7))
    (V (Proc.devRef .tc main_arg8)) (K := 8192) rfl (res_main_v46 V : FVec Ideal S16x8192 .bf16) i k)).trans ?_
  · exact lin_256 _ _ _ i k
  · rw [normed_eq, residual_eq]
    rfl

/-- The result's sum, rounded and in its three axes. -/
theorem result_split (a b : FVec Ideal S16x8192 .f32) : shapeCast S16x1x8192 (truncf .bf16 (addf a b) bitsLt_bf16_f32 : FVec Ideal S16x8192 .bf16) shapeCasts_S16x8192_S16x1x8192
    = fun j => a (ix2 (j 0) (j 2)) + b (ix2 (j 0) (j 2)) := unflat _

/-- The reference's run, its result as `Q4.result` of its arguments, which are unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v136) = (fun j => result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (ix2 (j 0) (j 2)) :
          FVec Ideal S16x1x8192 .bf16)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10) := by
  refine (θ_run defs _ _).mono (fun _ h c => ⟨(h c).1.trans ?_, (h c).2⟩) (Value.run m ρ)
  refine (result_split _ _).trans (funext fun j => ?_)
  obtain ⟨i, u, n, rfl⟩ : ∃ (i : Fin 16) (u : Fin 1) (n : Fin 8192), j = ix3 i u n := ⟨j 0, j 1, j 2, funext fun a => by fin_cases a <;> rfl⟩
  refine congrArg₂ (· + ·) (congrFun (residual_eq (StableHlo.launchContents m c)) (ix2 i n)) ?_
  obtain ⟨A, hA, hA'⟩ := act_split (StableHlo.launchContents m c)
  refine (lin_464_of A (StableHlo.launchContents m c (Proc.devRef .tc main_arg9)) (StableHlo.launchContents m c (Proc.devRef .tc main_arg10)) _ _ _ hA rfl rfl i n).trans ?_
  unfold lin
  exact Finset.sum_congr rfl fun k _ => congrArg (· * _) (hA' i k)

end Cert.ReferenceIdeal
-- ==== Proof.NewRun.lean ====
/-
  The kernel's run, of the new token's query, key and value, with what its result arrays hold at the end.
-/
module

public import proofs.«01_k».proof.Proof.Gen.KernelNewIdeal.Frame

@[expose] public section

-- membership in a rectangle of production extents (`View.cover_of_tiled`): the elaborator's structural look
-- recurses once per coordinate of the long axes
set_option maxRecDepth 16384

noncomputable section

namespace Cert.KernelNewIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result arrays beside the arguments: they end at the last boundary's contents. -/
theorem run_result : θ_run defs (onTc (τ := τ) (main (F := F))) ⟨m, fun _ => 0, ρ⟩ (fun r => ∀ c : Dev nD,
      r.2.mem ((c.tc : Thread nD τ).loc main_v12) = W9 m ρ c (Proc.devRef .tc main_v12)
      ∧ r.2.mem ((c.tc : Thread nD τ).loc main_v13) = W9 m ρ c (Proc.devRef .tc main_v13)
      ∧ r.2.mem ((c.tc : Thread nD τ).loc main_v14) = W9 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v12 (by decide)),
       h c _ (mem_uc main_v13 (by decide)),
       h c _ (mem_uc main_v14 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelNewIdeal.Gen

end
-- ==== Proof.NewNorm.lean ====
/-
  The normalizing call of the new token: what it leaves, as one term, and its array after the run.
-/
module

public import proofs.«01_k».proof.Proof.Gen.KernelNewIdeal.Frame.Region0
public import proofs.«01_k».proof.Proof.Perm
public import Idealize.ShloMosaic.Lib.Pipeline.ValueKit

@[expose] public section

set_option maxRecDepth 16384

noncomputable section

namespace Cert.KernelNewIdeal.Gen

open Idealize.ShloMosaic Idealize.ShloMosaic.TcCoe
open Cert.Proof.Q4 (permute permute_apply natEquiv)
open Idealize.ShloMosaic.Pipeline (Dat Cfg Window)

section Any
variable {F : FTy → Type} [FloatOps F]

theorem out0_term (x0 : Vec F S16x8192 .bf16) (x1 : Vec F S1x8192 .bf16) :
    out0_2 x0 x1 = View.canon [⟨r0_0, permute 32 512 8192 (by decide) rfl rfl (k0_pay2 (View.ld x0 r0_0) (View.ld x1 r0_1))⟩] := by
  rfl

theorem out0_spec (x0 : Vec F S16x8192 .bf16) (x1 : Vec F S1x8192 .bf16) : out0_2 x0 x1 = permute 32 512 8192 (by decide) rfl rfl (k0_pay2 x0 x1) := by
  rw [out0_term, View.canon_unit_zero (funext fun a => by fin_cases a <;> rfl), View.ld_unit_zero (funext fun a => by fin_cases a <;> rfl),
    View.ld_unit_zero (funext fun a => by fin_cases a <;> rfl)]

end Any

/-- The block indices of the windows at the one point. -/
theorem idx0 : ∀ t : Fin grid0.N, win0_0.index t = ![0, 0] ∧ win0_1.index t = ![0, 0] ∧ win0_2.index t = ![0, 0] := by decide +kernel

/-- After the call its array is the normalized row in the kernel's order. -/
theorem arr0 (V : (c : Dev nD) → (b : Ref sig .tc) → b.ty.Contents (Elt Ideal)) (c : Dev nD) (m : Fin 16) (K : Fin 8192) :
    ((dat0 V c).arrAt 2 cfg0.N : FVec Ideal S16x8192 .bf16) (ix2 m K)
      = k0_pay2 (F := Ideal) (V c (Pipeline.arrRef spec0 0)) (V c (Pipeline.arrRef spec0 1)) (ix2 m (natEquiv (T := 8192) rfl K)) := by
  have key : (dat0 V c).arrAt 2 cfg0.N
      = (permute (F := Ideal) 32 512 8192 (by decide) rfl rfl (k0_pay2 (V c (Pipeline.arrRef spec0 0)) (V c (Pipeline.arrRef spec0 1))) : FVec Ideal S16x8192 .bf16) := by
    refine (dat0 V c).arrAt_eq_of_covers 2 _ (by decide +kernel) fun t hf y => ?_
    blk_simp
    rw [after0_2, out0_spec]
    have e0 : (iblk0 V c 0 t : FVec Ideal S16x8192 .bf16) = V c (Pipeline.arrRef spec0 0) := by
      funext j
      obtain ⟨p, q, rfl⟩ : ∃ (p : Fin 16) (q : Fin 8192), j = ix2 p q := ⟨j 0, j 1, funext fun a => by fin_cases a <;> rfl⟩
      blk_ext [iblk0, idx0 t]
    have e1 : (iblk0 V c 1 t : FVec Ideal S1x8192 .bf16) = V c (Pipeline.arrRef spec0 1) := by
      funext j
      obtain ⟨p, q, rfl⟩ : ∃ (p : Fin 1) (q : Fin 8192), j = ix2 p q := ⟨j 0, j 1, funext fun a => by fin_cases a <;> rfl⟩
      blk_ext [iblk0, idx0 t]
    rw [e0, e1]
    obtain ⟨p, q, rfl⟩ : ∃ (p : Fin 16) (q : Fin 8192), y = ix2 p q := ⟨y 0, y 1, funext fun a => by fin_cases a <;> rfl⟩
    blk_ext [idx0 t]
  rw [key]
  exact permute_apply _ _ _ _ _ _ _ _ _ _

end Cert.KernelNewIdeal.Gen
-- ==== Proof.NewSpec.lean ====
/-
  The query, key and value of the new token as plain mathematics: the normalized row through a four-bit linear layer, the query
  and the key then rotated by the position.
-/
module

public import proofs.«01_k».proof.Proof.Spec

@[expose] public section

noncomputable section

namespace Cert.Proof.Q4

open Idealize.ShloMosaic

/-- The frequency of a lane of a half head. -/
def freq (j : Nat) : EReal := (((10000 : ℝ) ^ (-((j : ℝ) * (1 / 64))) : ℝ) : EReal)

/-- The angle of a row's position at a lane. -/
def angle (pos : (⟨1, ![16]⟩ : Shape).Idx → BitVec 32) (i : Fin 16) (j : Nat) : EReal := (((pos (ix1 i)).toInt : ℝ) : EReal) * freq j

/-- One head rotated by its angles: the two halves of the head are the two coordinates. -/
def rotary (y : Fin 128 → EReal) (a : Nat → EReal) (l : Fin 128) : EReal :=
  if h : l.val < 64 then y l * Ideal.cos (a l.val) - y ⟨l.val + 64, by omega⟩ * Ideal.sin (a l.val)
  else y l * Ideal.cos (a (l.val - 64)) + y ⟨l.val - 64, by omega⟩ * Ideal.sin (a (l.val - 64))

/-- The row, without its axis of one token. -/
def row (x : (⟨3, ![16, 1, 8192]⟩ : Shape).Idx → EReal) : (⟨2, ![16, 8192]⟩ : Shape).Idx → EReal := fun j => x (ix3 (j 0) 0 (j 1))

/-- The normalized row through a layer, at a head and a lane. -/
def proj {N : Nat} (x : (⟨3, ![16, 1, 8192]⟩ : Shape).Idx → EReal) (g : (⟨1, ![8192]⟩ : Shape).Idx → EReal)
    (wc : (⟨3, ![N, 256, 16]⟩ : Shape).Idx → BitVec 8) (ws : (⟨2, ![N, 256]⟩ : Shape).Idx → EReal) (i : Fin 16) (n : Fin N) : EReal :=
  lin wc ws (K := 8192) rfl (normed (row x) g) i n

/-- The same, rotated within each head of 128. -/
def projRotary {N : Nat} (H : Nat) (hN : N = 128 * H) (x : (⟨3, ![16, 1, 8192]⟩ : Shape).Idx → EReal) (g : (⟨1, ![8192]⟩ : Shape).Idx → EReal)
    (wc : (⟨3, ![N, 256, 16]⟩ : Shape).Idx → BitVec 8) (ws : (⟨2, ![N, 256]⟩ : Shape).Idx → EReal) (pos : (⟨1, ![16]⟩ : Shape).Idx → BitVec 32)
    (i : Fin 16) (h : Fin H) (l : Fin 128) : EReal :=
  rotary (fun k => proj x g wc ws i ⟨128 * h.val + k.val, by omega⟩) (angle pos i) l

theorem ofBits_64th : Ideal.ofBits .f32 0x3C800000#32 = ((1 / 64 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

/-- The frequency as a power. -/
theorem freq_pow (j : Nat) : Ideal.pow (Ideal.ofBits .f32 0x461C4000#32) (-(((j : ℝ) : EReal) * Ideal.ofBits .f32 0x3C800000#32)) = freq j := by
  rw [ofBits_64th, ofBits_10000, ← EReal.coe_mul, ← EReal.coe_neg]
  rfl

/-- The frequency as an exponential of a logarithm. -/
theorem freq_exp (j : Nat) :
    Ideal.exp ((((j : ℝ) : EReal) * Ideal.ofBits .f32 0x3C800000#32) * (0 - Ideal.log (Ideal.ofBits .f32 0x461C4000#32))) = freq j := by
  have hl : Ideal.log ((10000 : ℝ) : EReal) = ((Real.log 10000 : ℝ) : EReal) := if_neg (by norm_num)
  rw [ofBits_64th, ofBits_10000, hl, zero_sub, ← EReal.coe_mul, ← EReal.coe_neg, ← EReal.coe_mul]
  unfold freq
  rw [Real.rpow_def_of_pos (by norm_num)]
  refine congrArg (fun r : ℝ => ((Real.exp r : ℝ) : EReal)) ?_
  ring

end Cert.Proof.Q4
-- ==== Proof.NewRope.lean ====
/-
  The rotation as the kernel does it on a block of two heads: each head times the cosines, plus the head turned by half times
  the sines with the sign of the half. At an element it is `Q4.rotary`.
-/
module

public import proofs.«01_k».proof.Proof.Blocks
public import proofs.«01_k».proof.Proof.NewSpec
public import Idealize.ShloMosaic.Lib.KernelVsHost

@[expose] public section

noncomputable section

namespace Cert.Proof.Q4

open Idealize.ShloMosaic

abbrev S16x1 : Shape := ⟨2, ![16, 1]⟩

variable {F : FTy → Type} [FloatOps F]

/-- The angles of a block's lanes. -/
def ropeAngle (p : IVec S16x1 32) : FVec F S16x128 .f32 :=
  mulf (broadcastTo S16x128 (sitofp .f32 p) (by decide))
    (broadcastTo S16x128
      (exp (mulf (mulf (sitofp .f32 (andi (iota .tc S1x128 32 [1] (by decide)) (broadcast S1x128 63#32))) (broadcast S1x128 (Scalar.ofBits .f32 0x3C800000#32)))
        (broadcast S1x128 (Scalar.subf (Scalar.ofBits .f32 0x00000000#32) (Scalar.log (Scalar.ofBits .f32 0x461C4000#32)))))) (by decide))

/-- The sines, negative in the first half of the head. -/
def ropeSine (p : IVec S16x1 32) : FVec F S16x128 .f32 :=
  mulf (broadcastTo S16x128
      (select (cmpi .slt (iota .tc S1x128 32 [1] (by decide)) (broadcast S1x128 64#32)) (broadcast S1x128 (Scalar.ofBits .f32 0xBF800000#32))
        (broadcast S1x128 (Scalar.ofBits .f32 0x3F800000#32))) (by decide))
    (sin (ropeAngle p))

/-- One head rotated. -/
def ropeHead (z : FVec F S16x128 .f32) (p : IVec S16x1 32) : FVec F S16x128 .f32 :=
  addf (mulf z (cos (ropeAngle p))) (mulf (dynamicRotate 1 64#32 none z (by decide)) (ropeSine p))

theorem slices_head (b : Fin 2) : (⟨2, ![16, 256]⟩ : Shape).Slices ![0, 128 * b.val] S16x128 :=
  ⟨rfl, fun a => by match a with
    | ⟨0, _⟩ => show 0 + 16 ≤ 16; omega
    | ⟨1, _⟩ => show 128 * b.val + 128 ≤ 256; omega⟩

/-- The block of two heads rotated and rounded. -/
def ropeBlock (y : FVec F ⟨2, ![16, 256]⟩ .f32) (p : IVec S16x1 32) : FVec F ⟨2, ![16, 256]⟩ .bf16 :=
  truncf .bf16 (wide 2 16 256 (by decide) rfl fun b => ropeHead (extractStridedSlice S16x128 ![0, 128 * b.val] y (slices_head b)) p) (by decide)

/-- The lane within its half, as the mask of its low six bits gives it. -/
theorem lane_toInt (l : Fin 128) : (BitVec.ofNat 32 l.val &&& 63#32).toInt = ((l.val % 64 : Nat) : ℤ) := by
  revert l; decide +kernel

theorem lane_slt (l : Fin 128) : (BitVec.ofNat 32 l.val).slt 64#32 = decide (l.val < 64) := by
  revert l; decide +kernel

theorem ropeAngle_apply (p : IVec S16x1 32) (m : Fin 16) (l : Fin 128) :
    ropeAngle (F := Ideal) p (ix2 m l) = (((p (ix2 m 0)).toInt : ℝ) : EReal) * freq (l.val % 64) := by
  rw [← freq_exp]
  pointwise [ropeAngle]
  have e : FloatOps.sitofp (F := Ideal) FTy.f32 (IntOp.andi (BitVec.ofNat 32 l.val) 63#32) = ((((l.val % 64 : Nat) : ℝ)) : EReal) := by
    show (((BitVec.ofNat 32 l.val &&& 63#32).toInt : ℝ) : EReal) = _
    rw [lane_toInt, Int.cast_natCast]
  rw [e]
  rfl

theorem ropeSine_apply (p : IVec S16x1 32) (m : Fin 16) (l : Fin 128) :
    ropeSine (F := Ideal) p (ix2 m l) = (if l.val < 64 then -1 else 1) * Ideal.sin ((((p (ix2 m 0)).toInt : ℝ) : EReal) * freq (l.val % 64)) := by
  rw [← ropeAngle_apply]
  pointwise [ropeSine]
  refine congrArg (· * _) ?_
  rw [ofBits_neg_one]
  have e : IntOp.cmpi .slt (BitVec.ofNat 32 l.val) 64#32 = BitVec.ofBool (decide (l.val < 64)) := congrArg BitVec.ofBool (lane_slt l)
  rw [e]
  by_cases h : l.val < 64
  · rw [if_pos h, decide_eq_true h]
    show (((-1 : ℝ)) : EReal) = -1
    simp
  · rw [if_neg h, decide_eq_false h]
    rfl

theorem ropeHead_apply (z : FVec Ideal S16x128 .f32) (p : IVec S16x1 32) (m : Fin 16) (l : Fin 128) :
    ropeHead z p (ix2 m l) = rotary (fun k => z (ix2 m k)) (fun j => (((p (ix2 m 0)).toInt : ℝ) : EReal) * freq j) l := by
  have hr : dynamicRotate 1 64#32 none z (by decide) (ix2 m l) = z (ix2 m ⟨(l.val + 64) % 128, by omega⟩) :=
    dynamicRotate_apply (1 : Fin 2) 64#32 z (by decide) (ix2 m l) _ (fun b => by
      match b with
      | ⟨0, _⟩ => rfl
      | ⟨1, _⟩ => show (l.val + 64) % 128 = (l.val + 128 - 64 % 128) % 128; omega)
  have e : ropeHead z p (ix2 m l) = z (ix2 m l) * Ideal.cos (ropeAngle (F := Ideal) p (ix2 m l))
      + z (ix2 m ⟨(l.val + 64) % 128, by omega⟩) * ropeSine (F := Ideal) p (ix2 m l) := by
    rw [← hr]; rfl
  rw [e, ropeAngle_apply, ropeSine_apply]
  unfold rotary
  by_cases h : l.val < 64
  · rw [dif_pos h, if_pos h]
    have h1 : l.val % 64 = l.val := by omega
    have h2 : (⟨(l.val + 64) % 128, by omega⟩ : Fin 128) = ⟨l.val + 64, by omega⟩ := Fin.ext (by show (l.val + 64) % 128 = l.val + 64; omega)
    rw [h1, h2, neg_one_mul, mul_neg, sub_eq_add_neg]
  · rw [dif_neg h, if_neg h]
    have h1 : l.val % 64 = l.val - 64 := by omega
    have h2 : (⟨(l.val + 64) % 128, by omega⟩ : Fin 128) = ⟨l.val - 64, by omega⟩ := Fin.ext (by show (l.val + 64) % 128 = l.val - 64; omega)
    rw [h1, h2, one_mul]

/-- The rotated block at an element. -/
theorem ropeBlock_apply (y : FVec Ideal ⟨2, ![16, 256]⟩ .f32) (p : IVec S16x1 32) (m : Fin 16) (n : Fin 256) :
    ropeBlock y p (ix2 m n) = rotary (fun k => y (ix2 m ⟨128 * (n.val / 128) + k.val, by omega⟩))
      (fun j => (((p (ix2 m 0)).toInt : ℝ) : EReal) * freq j) ⟨n.val % 128, by omega⟩ := by
  refine (wide_apply 2 16 256 (by decide) rfl _ m n).trans ?_
  rw [ropeHead_apply]
  refine congrArg (fun f => rotary f _ _) (funext fun k => ?_)
  pointwise

end Cert.Proof.Q4
-- ==== Proof.NewLin.lean ====
/-
  A layer of 8192 inputs on whole arrays as the kernel reads them, its inputs in the kernel's order, is the layer in the natural order.
-/
module

public import proofs.«01_k».proof.Proof.Blocks
public import proofs.«01_k».proof.Proof.Linear

@[expose] public section

noncomputable section

namespace Cert.Proof.Q4

open Idealize.ShloMosaic

/-- One product on whole arrays: input rows in the kernel's order, codes as bytes `(output, byte, group)`. -/
def blockLin {N : Nat} (a : FVec Ideal S16x8192 .bf16) (ct : IVec ⟨3, ![N, 16, 256]⟩ 8) (s : FVec Ideal ⟨2, ![N, 256]⟩ .bf16) (m : Fin 16) (n : Fin N) : EReal :=
  ∑ K : Fin 8192, a (ix2 m K)
    * (((code (ct (ix3 n ⟨nat K.val % 32 / 2, by omega⟩ ⟨nat K.val / 32, by rw [nat_div]; omega⟩)) (nat K.val % 32 % 2) : ℝ) : EReal)
      * s (ix2 n ⟨nat K.val / 32, by rw [nat_div]; omega⟩))

/-- The product is the layer, its inputs in their natural order. -/
theorem blockLin_eq {N : Nat} (a : FVec Ideal S16x8192 .bf16) (h : (⟨2, ![16, 8192]⟩ : Shape).Idx → EReal) (ct : IVec ⟨3, ![N, 16, 256]⟩ 8)
    (codes : IVec ⟨3, ![N, 256, 16]⟩ 8) (s s' : FVec Ideal ⟨2, ![N, 256]⟩ .bf16)
    (ha : ∀ (i : Fin 16) (K : Fin 8192), a (ix2 i K) = h (ix2 i (natEquiv (T := 8192) rfl K)))
    (hc : ∀ (n : Fin N) (b : Fin 16) (g : Fin 256), ct (ix3 n b g) = codes (ix3 n g b)) (hs : s = s') (i : Fin 16) (n : Fin N) :
    blockLin a ct s i n = lin codes s' (K := 8192) rfl h i n := by
  subst hs
  refine Eq.trans ?_ (lin_reordered _ _ (K := 8192) rfl rfl _ i n)
  refine Finset.sum_congr rfl fun K _ => congrArg₂ (· * ·) (ha i K) (congrArg₂ (· * ·) ?_ rfl)
  rw [hc, show nat K.val % 32 % 2 = nat K.val % 2 by omega]
  rfl

end Cert.Proof.Q4
-- ==== Proof.NewProj1.lean ====
/-
  The new token's query: what one grid point leaves in its block, as one term, and the array after all points.
-/
module

public import proofs.«01_k».proof.Proof.Gen.KernelNewIdeal.Frame.Region1
public import proofs.«01_k».proof.Proof.NewRope
public import proofs.«01_k».proof.Proof.NewLin
public import Idealize.ShloMosaic.Lib.Pipeline.ValueKit

@[expose] public section

set_option maxRecDepth 16384

noncomputable section

namespace Cert.KernelNewIdeal.Gen

open Idealize.ShloMosaic Idealize.ShloMosaic.TcCoe
open Cert.Proof.Q4 (guDot guDot_apply ropeBlock ropeBlock_apply rotary freq blockLin nat nat_div code)
open Idealize.ShloMosaic.Pipeline (Dat Cfg Window)

section Any
variable {F : FTy → Type} [FloatOps F]

theorem out1_term (x0 : Vec F S16x8192 .bf16) (x1 : Vec F S256x16x128 .i8) (x2 : Vec F S256x16x128 .i8) (x3 : Vec F S256x256 .bf16) (x4 : Vec F S16x1 .i32) :
    out1_5 x0 x1 x2 x3 x4
      = View.canon [⟨r1_4, ropeBlock (guDot (shapeCast S16x8192 (View.ld x0 r1_0) shapeCasts_S16x8192_S16x8192) ![View.ld x1 r1_2, View.ld x2 r1_2] (View.ld x3 r1_1)) (shapeCast S16x1 (View.ld x4 r1_3) shapeCasts_S16x1_S16x1)⟩] := by
  rfl

/-- The block the call stores. -/
theorem out1_spec (x0 : Vec F S16x8192 .bf16) (x1 : Vec F S256x16x128 .i8) (x2 : Vec F S256x16x128 .i8) (x3 : Vec F S256x256 .bf16) (x4 : Vec F S16x1 .i32) :
    out1_5 x0 x1 x2 x3 x4 = ropeBlock (guDot x0 ![x1, x2] x3) x4 := by
  rw [out1_term, View.canon_unit_zero (funext fun a => by fin_cases a <;> rfl), View.ld_unit_zero (funext fun a => by fin_cases a <;> rfl),
    View.ld_unit_zero (funext fun a => by fin_cases a <;> rfl), View.ld_unit_zero (funext fun a => by fin_cases a <;> rfl),
    View.ld_unit_zero (funext fun a => by fin_cases a <;> rfl),
    View.ld_unit_zero (funext fun a => by fin_cases a <;> rfl)]
  rw [show shapeCast S16x8192 x0 shapeCasts_S16x8192_S16x8192 = x0 from shapeCast_self x0 _, show shapeCast S16x1 x4 shapeCasts_S16x1_S16x1 = x4 from shapeCast_self x4 _]

end Any

/-- The block indices of the windows at a point. -/
theorem idx1 : ∀ t : Fin grid1.N, win1_0.index t = ![0, 0] ∧ win1_1.index t = ![t.val, 0, 0] ∧ win1_2.index t = ![t.val, 0, 1]
    ∧ win1_3.index t = ![t.val, 0] ∧ win1_4.index t = ![0, 0] ∧ win1_5.index t = ![0, t.val] := by
  decide +kernel

theorem dot1 (V : (c : Dev nD) → (b : Ref sig .tc) → b.ty.Contents (Elt Ideal)) (c : Dev nD) (t : Fin cfg1.N) (m : Fin 16) (n : Fin 256) (n' : Fin 4096)
    (hn' : n'.val = 256 * t.val + n.val) :
    guDot (F := Ideal) (iblk1 V c 0 t) ![iblk1 V c 1 t, iblk1 V c 2 t] (iblk1 V c 3 t) (ix2 m n)
      = blockLin (N := 4096) (V c (Pipeline.arrRef spec1 0)) (V c (Pipeline.arrRef spec1 1)) (V c (Pipeline.arrRef spec1 3)) m n' := by
  refine (guDot_apply _ _ _ m n).trans ?_
  unfold blockLin
  refine Finset.sum_congr rfl fun K _ => congrArg₂ (· * ·) ?_ (congrArg₂ (· * ·) (congrArg (fun b => ((code b (nat K.val % 32 % 2) : ℝ) : EReal)) ?_) ?_)
  · blk_ext [iblk1, idx1 t]
  · have hn := nat_div K.val
    rcases (by omega : K.val / 4096 = 0 ∨ K.val / 4096 = 1) with h | h
    · rw [show (⟨K.val / 4096, by omega⟩ : Fin 2) = 0 from Fin.ext h]
      show iblk1 V c 1 t _ = _
      blk_ext [iblk1, idx1 t]
    · rw [show (⟨K.val / 4096, by omega⟩ : Fin 2) = 1 from Fin.ext h]
      show iblk1 V c 2 t _ = _
      blk_ext [iblk1, idx1 t]
  · blk_ext [iblk1, idx1 t]

/-- The projection on whole arrays: each head rotated. -/
def ropeArr1 (a : FVec Ideal S16x8192 .bf16) (ct : IVec S4096x16x256 8) (s : FVec Ideal S4096x256 .bf16) (p : IVec S16x1 32) : FVec Ideal S16x4096 .bf16 := fun j =>
  rotary (fun k => blockLin (N := 4096) a ct s (j 0) ⟨128 * ((j 1).val / 128) + k.val, by have := (j 1).isLt; change (j 1).val < 4096 at this; omega⟩)
    (fun l => (((p (ix2 (j 0) 0)).toInt : ℝ) : EReal) * freq l) ⟨(j 1).val % 128, by omega⟩

set_option maxHeartbeats 4000000 in
/-- After the region its array is the rotated projection of the arrays it read. -/
theorem arr1 (V : (c : Dev nD) → (b : Ref sig .tc) → b.ty.Contents (Elt Ideal)) (c : Dev nD) :
    (dat1 V c).arrAt 5 cfg1.N
      = ropeArr1 (V c (Pipeline.arrRef spec1 0)) (V c (Pipeline.arrRef spec1 1)) (V c (Pipeline.arrRef spec1 3)) (V c (Pipeline.arrRef spec1 4)) := by
  refine (dat1 V c).arrAt_eq_of_covers 5 _ (by decide +kernel) fun t hf y => ?_
  blk_simp
  rw [after1_5, out1_spec]
  obtain ⟨m, n, rfl⟩ : ∃ (m : Fin 16) (n : Fin 256), y = ix2 m n := ⟨y 0, y 1, funext fun a => by fin_cases a <;> rfl⟩
  have ht : t.val < 16 := t.isLt
  have e : (win1_5.blk t).view.emb (ix2 m n) = (ix2 m (⟨256 * t.val + n.val, by omega⟩ : Fin 4096) : S16x4096.Idx) := by
    blk_ext [idx1 t]
  have hp : (iblk1 V c 4 t : IVec S16x1 32) (ix2 m 0) = (V c (Pipeline.arrRef spec1 4) : IVec S16x1 32) (ix2 m 0) := by
    blk_ext [iblk1, idx1 t]
  rw [e]
  refine (ropeBlock_apply _ _ m n).trans ?_
  rw [hp]
  refine congrArg₂ (fun f l => rotary f _ l) (funext fun k => ?_) (Fin.ext ?_)
  · refine dot1 V c t m _ _ ?_
    show 128 * ((256 * t.val + n.val) / 128) + k.val = 256 * t.val + (128 * (n.val / 128) + k.val)
    omega
  · show n.val % 128 = (256 * t.val + n.val) % 128
    omega

end Cert.KernelNewIdeal.Gen
-- ==== Proof.NewProj2.lean ====
/-
  The new token's key: what one grid point leaves in its block, as one term, and the array after all points.
-/
module

public import proofs.«01_k».proof.Proof.Gen.KernelNewIdeal.Frame.Region2
public import proofs.«01_k».proof.Proof.NewRope
public import proofs.«01_k».proof.Proof.NewLin
public import Idealize.ShloMosaic.Lib.Pipeline.ValueKit

@[expose] public section

set_option maxRecDepth 16384

noncomputable section

namespace Cert.KernelNewIdeal.Gen

open Idealize.ShloMosaic Idealize.ShloMosaic.TcCoe
open Cert.Proof.Q4 (guDot guDot_apply ropeBlock ropeBlock_apply rotary freq blockLin nat nat_div code)
open Idealize.ShloMosaic.Pipeline (Dat Cfg Window)

section Any
variable {F : FTy → Type} [FloatOps F]

theorem out2_term (x0 : Vec F S16x8192 .bf16) (x1 : Vec F S256x16x128 .i8) (x2 : Vec F S256x16x128 .i8) (x3 : Vec F S256x256 .bf16) (x4 : Vec F S16x1 .i32) :
    out2_5 x0 x1 x2 x3 x4
      = View.canon [⟨r2_4, ropeBlock (guDot (shapeCast S16x8192 (View.ld x0 r2_0) shapeCasts_S16x8192_S16x8192) ![View.ld x1 r2_2, View.ld x2 r2_2] (View.ld x3 r2_1)) (shapeCast S16x1 (View.ld x4 r2_3) shapeCasts_S16x1_S16x1)⟩] := by
  rfl

/-- The block the call stores. -/
theorem out2_spec (x0 : Vec F S16x8192 .bf16) (x1 : Vec F S256x16x128 .i8) (x2 : Vec F S256x16x128 .i8) (x3 : Vec F S256x256 .bf16) (x4 : Vec F S16x1 .i32) :
    out2_5 x0 x1 x2 x3 x4 = ropeBlock (guDot x0 ![x1, x2] x3) x4 := by
  rw [out2_term, View.canon_unit_zero (funext fun a => by fin_cases a <;> rfl), View.ld_unit_zero (funext fun a => by fin_cases a <;> rfl),
    View.ld_unit_zero (funext fun a => by fin_cases a <;> rfl), View.ld_unit_zero (funext fun a => by fin_cases a <;> rfl),
    View.ld_unit_zero (funext fun a => by fin_cases a <;> rfl),
    View.ld_unit_zero (funext fun a => by fin_cases a <;> rfl)]
  rw [show shapeCast S16x8192 x0 shapeCasts_S16x8192_S16x8192 = x0 from shapeCast_self x0 _, show shapeCast S16x1 x4 shapeCasts_S16x1_S16x1 = x4 from shapeCast_self x4 _]

end Any

/-- The block indices of the windows at a point. -/
theorem idx2 : ∀ t : Fin grid2.N, win2_0.index t = ![0, 0] ∧ win2_1.index t = ![t.val, 0, 0] ∧ win2_2.index t = ![t.val, 0, 1]
    ∧ win2_3.index t = ![t.val, 0] ∧ win2_4.index t = ![0, 0] ∧ win2_5.index t = ![0, t.val] := by
  decide +kernel

theorem dot2 (V : (c : Dev nD) → (b : Ref sig .tc) → b.ty.Contents (Elt Ideal)) (c : Dev nD) (t : Fin cfg2.N) (m : Fin 16) (n : Fin 256) (n' : Fin 512)
    (hn' : n'.val = 256 * t.val + n.val) :
    guDot (F := Ideal) (iblk2 V c 0 t) ![iblk2 V c 1 t, iblk2 V c 2 t] (iblk2 V c 3 t) (ix2 m n)
      = blockLin (N := 512) (V c (Pipeline.arrRef spec2 0)) (V c (Pipeline.arrRef spec2 1)) (V c (Pipeline.arrRef spec2 3)) m n' := by
  refine (guDot_apply _ _ _ m n).trans ?_
  unfold blockLin
  refine Finset.sum_congr rfl fun K _ => congrArg₂ (· * ·) ?_ (congrArg₂ (· * ·) (congrArg (fun b => ((code b (nat K.val % 32 % 2) : ℝ) : EReal)) ?_) ?_)
  · blk_ext [iblk2, idx2 t]
  · have hn := nat_div K.val
    rcases (by omega : K.val / 4096 = 0 ∨ K.val / 4096 = 1) with h | h
    · rw [show (⟨K.val / 4096, by omega⟩ : Fin 2) = 0 from Fin.ext h]
      show iblk2 V c 1 t _ = _
      blk_ext [iblk2, idx2 t]
    · rw [show (⟨K.val / 4096, by omega⟩ : Fin 2) = 1 from Fin.ext h]
      show iblk2 V c 2 t _ = _
      blk_ext [iblk2, idx2 t]
  · blk_ext [iblk2, idx2 t]

/-- The projection on whole arrays: each head rotated. -/
def ropeArr2 (a : FVec Ideal S16x8192 .bf16) (ct : IVec S512x16x256 8) (s : FVec Ideal S512x256 .bf16) (p : IVec S16x1 32) : FVec Ideal S16x512 .bf16 := fun j =>
  rotary (fun k => blockLin (N := 512) a ct s (j 0) ⟨128 * ((j 1).val / 128) + k.val, by have := (j 1).isLt; change (j 1).val < 512 at this; omega⟩)
    (fun l => (((p (ix2 (j 0) 0)).toInt : ℝ) : EReal) * freq l) ⟨(j 1).val % 128, by omega⟩

set_option maxHeartbeats 4000000 in
/-- After the region its array is the rotated projection of the arrays it read. -/
theorem arr2 (V : (c : Dev nD) → (b : Ref sig .tc) → b.ty.Contents (Elt Ideal)) (c : Dev nD) :
    (dat2 V c).arrAt 5 cfg2.N
      = ropeArr2 (V c (Pipeline.arrRef spec2 0)) (V c (Pipeline.arrRef spec2 1)) (V c (Pipeline.arrRef spec2 3)) (V c (Pipeline.arrRef spec2 4)) := by
  refine (dat2 V c).arrAt_eq_of_covers 5 _ (by decide +kernel) fun t hf y => ?_
  blk_simp
  rw [after2_5, out2_spec]
  obtain ⟨m, n, rfl⟩ : ∃ (m : Fin 16) (n : Fin 256), y = ix2 m n := ⟨y 0, y 1, funext fun a => by fin_cases a <;> rfl⟩
  have ht : t.val < 2 := t.isLt
  have e : (win2_5.blk t).view.emb (ix2 m n) = (ix2 m (⟨256 * t.val + n.val, by omega⟩ : Fin 512) : S16x512.Idx) := by
    blk_ext [idx2 t]
  have hp : (iblk2 V c 4 t : IVec S16x1 32) (ix2 m 0) = (V c (Pipeline.arrRef spec2 4) : IVec S16x1 32) (ix2 m 0) := by
    blk_ext [iblk2, idx2 t]
  rw [e]
  refine (ropeBlock_apply _ _ m n).trans ?_
  rw [hp]
  refine congrArg₂ (fun f l => rotary f _ l) (funext fun k => ?_) (Fin.ext ?_)
  · refine dot2 V c t m _ _ ?_
    show 128 * ((256 * t.val + n.val) / 128) + k.val = 256 * t.val + (128 * (n.val / 128) + k.val)
    omega
  · show n.val % 128 = (256 * t.val + n.val) % 128
    omega

end Cert.KernelNewIdeal.Gen
-- ==== Proof.NewProj3.lean ====
/-
  The new token's value: what one grid point leaves in its block, as one term, and the array after all points.
-/
module

public import proofs.«01_k».proof.Proof.Gen.KernelNewIdeal.Frame.Region3
public import proofs.«01_k».proof.Proof.NewRope
public import proofs.«01_k».proof.Proof.NewLin
public import Idealize.ShloMosaic.Lib.Pipeline.ValueKit

@[expose] public section

set_option maxRecDepth 16384

noncomputable section

namespace Cert.KernelNewIdeal.Gen

open Idealize.ShloMosaic Idealize.ShloMosaic.TcCoe
open Cert.Proof.Q4 (guDot guDot_apply ropeBlock ropeBlock_apply rotary freq blockLin nat nat_div code)
open Idealize.ShloMosaic.Pipeline (Dat Cfg Window)

section Any
variable {F : FTy → Type} [FloatOps F]

theorem out3_term (x0 : Vec F S16x8192 .bf16) (x1 : Vec F S256x16x128 .i8) (x2 : Vec F S256x16x128 .i8) (x3 : Vec F S256x256 .bf16) (x4 : Vec F S16x1 .i32) :
    out3_5 x0 x1 x2 x3 x4
      = View.canon [⟨r3_3, truncf .bf16 (guDot (shapeCast S16x8192 (View.ld x0 r3_0) shapeCasts_S16x8192_S16x8192) ![View.ld x1 r3_2, View.ld x2 r3_2] (View.ld x3 r3_1)) bitsLt_bf16_f32⟩] := by
  rfl

/-- The block the call stores. -/
theorem out3_spec (x0 : Vec F S16x8192 .bf16) (x1 : Vec F S256x16x128 .i8) (x2 : Vec F S256x16x128 .i8) (x3 : Vec F S256x256 .bf16) (x4 : Vec F S16x1 .i32) :
    out3_5 x0 x1 x2 x3 x4 = truncf .bf16 (guDot x0 ![x1, x2] x3) bitsLt_bf16_f32 := by
  rw [out3_term, View.canon_unit_zero (funext fun a => by fin_cases a <;> rfl), View.ld_unit_zero (funext fun a => by fin_cases a <;> rfl),
    View.ld_unit_zero (funext fun a => by fin_cases a <;> rfl), View.ld_unit_zero (funext fun a => by fin_cases a <;> rfl),
    View.ld_unit_zero (funext fun a => by fin_cases a <;> rfl)]
  rw [show shapeCast S16x8192 x0 shapeCasts_S16x8192_S16x8192 = x0 from shapeCast_self x0 _]

end Any

/-- The block indices of the windows at a point. -/
theorem idx3 : ∀ t : Fin grid3.N, win3_0.index t = ![0, 0] ∧ win3_1.index t = ![t.val, 0, 0] ∧ win3_2.index t = ![t.val, 0, 1]
    ∧ win3_3.index t = ![t.val, 0] ∧ win3_4.index t = ![0, 0] ∧ win3_5.index t = ![0, t.val] := by
  decide +kernel

theorem dot3 (V : (c : Dev nD) → (b : Ref sig .tc) → b.ty.Contents (Elt Ideal)) (c : Dev nD) (t : Fin cfg3.N) (m : Fin 16) (n : Fin 256) (n' : Fin 512)
    (hn' : n'.val = 256 * t.val + n.val) :
    guDot (F := Ideal) (iblk3 V c 0 t) ![iblk3 V c 1 t, iblk3 V c 2 t] (iblk3 V c 3 t) (ix2 m n)
      = blockLin (N := 512) (V c (Pipeline.arrRef spec3 0)) (V c (Pipeline.arrRef spec3 1)) (V c (Pipeline.arrRef spec3 3)) m n' := by
  refine (guDot_apply _ _ _ m n).trans ?_
  unfold blockLin
  refine Finset.sum_congr rfl fun K _ => congrArg₂ (· * ·) ?_ (congrArg₂ (· * ·) (congrArg (fun b => ((code b (nat K.val % 32 % 2) : ℝ) : EReal)) ?_) ?_)
  · blk_ext [iblk3, idx3 t]
  · have hn := nat_div K.val
    rcases (by omega : K.val / 4096 = 0 ∨ K.val / 4096 = 1) with h | h
    · rw [show (⟨K.val / 4096, by omega⟩ : Fin 2) = 0 from Fin.ext h]
      show iblk3 V c 1 t _ = _
      blk_ext [iblk3, idx3 t]
    · rw [show (⟨K.val / 4096, by omega⟩ : Fin 2) = 1 from Fin.ext h]
      show iblk3 V c 2 t _ = _
      blk_ext [iblk3, idx3 t]
  · blk_ext [iblk3, idx3 t]

/-- The projection on whole arrays. -/
def linArr3 (a : FVec Ideal S16x8192 .bf16) (ct : IVec S512x16x256 8) (s : FVec Ideal S512x256 .bf16) : FVec Ideal S16x512 .bf16 := fun j =>
  blockLin (N := 512) a ct s (j 0) (j 1)

set_option maxHeartbeats 4000000 in
/-- After the region its array is the projection of the arrays it read. -/
theorem arr3 (V : (c : Dev nD) → (b : Ref sig .tc) → b.ty.Contents (Elt Ideal)) (c : Dev nD) :
    (dat3 V c).arrAt 5 cfg3.N
      = linArr3 (V c (Pipeline.arrRef spec3 0)) (V c (Pipeline.arrRef spec3 1)) (V c (Pipeline.arrRef spec3 3)) := by
  refine (dat3 V c).arrAt_eq_of_covers 5 _ (by decide +kernel) fun t hf y => ?_
  blk_simp
  rw [after3_5, out3_spec]
  obtain ⟨m, n, rfl⟩ : ∃ (m : Fin 16) (n : Fin 256), y = ix2 m n := ⟨y 0, y 1, funext fun a => by fin_cases a <;> rfl⟩
  have ht : t.val < 2 := t.isLt
  have e : (win3_5.blk t).view.emb (ix2 m n) = (ix2 m (⟨256 * t.val + n.val, by omega⟩ : Fin 512) : S16x512.Idx) := by
    blk_ext [idx3 t]
  rw [e]
  exact dot3 V c t m n _ rfl

end Cert.KernelNewIdeal.Gen
-- ==== Proof.NewLayer.lean ====
/-
  What the result arrays of the new token's kernel hold at the end: the rotated query, the rotated key and the value of its arguments.
-/
module

public import proofs.«01_k».proof.Proof.NewRun
public import proofs.«01_k».proof.Proof.NewNorm
public import proofs.«01_k».proof.Proof.NewProj1
public import proofs.«01_k».proof.Proof.NewProj2
public import proofs.«01_k».proof.Proof.NewProj3

@[expose] public section

set_option maxRecDepth 16384

noncomputable section

namespace Cert.KernelNewIdeal.Gen

open Idealize.ShloMosaic Idealize.ShloMosaic.TcCoe
open Cert.Proof Cert.Proof.Q4

/-! ### The host's reshapes and transposes at an element -/

theorem flat_x (x : FVec Ideal S16x1x8192 .bf16) : shapeCast S16x8192 x shapeCasts_S16x1x8192_S16x8192 = row x := by
  funext j
  obtain ⟨i, n, rfl⟩ : ∃ (i : Fin 16) (n : Fin 8192), j = ix2 i n := ⟨j 0, j 1, funext fun a => by fin_cases a <;> rfl⟩
  unfold row
  pointwise

theorem row_g (x : FVec Ideal S8192 .bf16) (n : Fin 8192) : shapeCast S1x8192 x shapeCasts_S8192_S1x8192 (ix2 0 n) = x (ix1 n) := by
  pointwise

theorem col_pos (x : IVec S16 32) (i : Fin 16) : shapeCast S16x1 x shapeCasts_S16_S16x1 (ix2 i 0) = x (ix1 i) := by
  pointwise

theorem q_codes (x : IVec S4096x256x16 8) (n : Fin 4096) (b : Fin 16) (g : Fin 256) :
    transpose S4096x16x256 [0, 2, 1] x transposes_S4096x256x16_S4096x16x256_0_2_1 (ix3 n b g) = x (ix3 n g b) := by
  pointwise

theorem kv_codes (x : IVec S512x256x16 8) (n : Fin 512) (b : Fin 16) (g : Fin 256) :
    transpose S512x16x256 [0, 2, 1] x transposes_S512x256x16_S512x16x256_0_2_1 (ix3 n b g) = x (ix3 n g b) := by
  pointwise

theorem heads_q (x : FVec Ideal S16x4096 .bf16) (i : Fin 16) (h : Fin 32) (l : Fin 128) :
    shapeCast S16x32x128 x shapeCasts_S16x4096_S16x32x128 (ix3 i h l) = x (ix2 i ⟨128 * h.val + l.val, by omega⟩) := by
  pointwise
  exact congrArg (fun n => x (ix2 i n)) (Fin.ext (by show h.val * 128 + l.val = 128 * h.val + l.val; omega))

theorem heads_kv (x : FVec Ideal S16x512 .bf16) (i : Fin 16) (u : Fin 1) (h : Fin 4) (l : Fin 128) :
    broadcastInDim S16x1x4x128 ![0, 2, 3] bcast_S16x4x128_S16x1x4x128_0_2_3 (shapeCast S16x4x128 x shapeCasts_S16x512_S16x4x128) (ix4 i u h l)
      = x (ix2 i ⟨128 * h.val + l.val, by omega⟩) := by
  pointwise
  exact congrArg (fun n => x (ix2 i n)) (Fin.ext (by show h.val * 128 + l.val = 128 * h.val + l.val; omega))

/-- The kernel's normalization at an element. -/
theorem norm_apply (y : FVec Ideal S16x8192 .bf16) (g : FVec Ideal S1x8192 .bf16) (g' : FVec Ideal S8192 .bf16) (hg : ∀ n : Fin 8192, g (ix2 0 n) = g' (ix1 n))
    (i : Fin 16) (n : Fin 8192) : k0_pay2 (F := Ideal) y g (ix2 i n) = normed y g' (ix2 i n) := by
  unfold k0_pay2 normed
  pointwise
  rw [hg]

variable (m : (ℓ : Loc nD τ sig) → Buf (Elt Ideal) ℓ) (ρ : Dev nD → PrngReg) (c : Dev nD)

/-! ### The normalization and the position -/

theorem at_v0 : (V1 m ρ c main_v0 : FVec Ideal S16x8192 .bf16) = shapeCast S16x8192 (m ((c.tc : Thread nD τ).loc main_arg0)) shapeCasts_S16x1x8192_S16x8192 := by
  show StableHlo.after hostOps0 (W0 m ρ c) (Proc.devRef .tc main_v0) = _
  entry_read
  rfl

theorem at_v1 : (V1 m ρ c main_v1 : IVec S16x1 32) = shapeCast S16x1 (m ((c.tc : Thread nD τ).loc main_arg8)) shapeCasts_S16_S16x1 := by
  show StableHlo.after hostOps0 (W0 m ρ c) (Proc.devRef .tc main_v1) = _
  entry_read
  rfl

theorem at_v2 : (V1 m ρ c main_v2 : FVec Ideal S1x8192 .bf16) = shapeCast S1x8192 (m ((c.tc : Thread nD τ).loc main_arg1)) shapeCasts_S8192_S1x8192 := by
  show StableHlo.after hostOps0 (W0 m ρ c) (Proc.devRef .tc main_v2) = _
  entry_read
  rfl

theorem normed_at (i : Fin 16) (K : Fin 8192) : (V3 m ρ c main_v3 : FVec Ideal S16x8192 .bf16) (ix2 i K)
    = normed (row (m ((c.tc : Thread nD τ).loc main_arg0))) (m ((c.tc : Thread nD τ).loc main_arg1)) (ix2 i (natEquiv (T := 8192) rfl K)) := by
  refine (congrFun ((W3_of m ρ c main_v3 (by decide)).trans (W2_arr m ρ c 2)) _).trans ((arr0 (V1 m ρ) c i K).trans ?_)
  refine (norm_apply _ _ _ (fun n => (congrFun (at_v2 m ρ c) _).trans (row_g _ n)) i _).trans ?_
  exact congrArg (fun y => normed y _ _) ((at_v0 m ρ c).trans (flat_x _))

theorem v3_5 : V5 m ρ c main_v3 = V3 m ρ c main_v3 := (W5_of m ρ c main_v3 (by decide)).trans (W4_of m ρ c main_v3 (by decide +kernel))
theorem v3_7 : V7 m ρ c main_v3 = V3 m ρ c main_v3 :=
  (W7_of m ρ c main_v3 (by decide)).trans ((W6_of m ρ c main_v3 (by decide +kernel)).trans (v3_5 m ρ c))
theorem v1_3 : V3 m ρ c main_v1 = V1 m ρ c main_v1 := (W3_of m ρ c main_v1 (by decide)).trans (W2_of m ρ c main_v1 (by decide +kernel))
theorem v1_5 : V5 m ρ c main_v1 = V1 m ρ c main_v1 :=
  (W5_of m ρ c main_v1 (by decide)).trans ((W4_of m ρ c main_v1 (by decide +kernel)).trans (v1_3 m ρ c))

/-! ### The codes and scales -/

theorem at_v4 : (V3 m ρ c main_v4 : IVec S4096x16x256 8) = transpose S4096x16x256 [0, 2, 1] (m ((c.tc : Thread nD τ).loc main_arg2)) transposes_S4096x256x16_S4096x16x256_0_2_1 := by
  show StableHlo.after hostOps1 (W2 m ρ c) (Proc.devRef .tc main_v4) = _
  entry_read
  exact congrArg (fun z => transpose S4096x16x256 [0, 2, 1] z transposes_S4096x256x16_S4096x16x256_0_2_1) (W2_args m ρ c main_arg2 (by decide))

theorem at_v6 : (V5 m ρ c main_v6 : IVec S512x16x256 8) = transpose S512x16x256 [0, 2, 1] (m ((c.tc : Thread nD τ).loc main_arg4)) transposes_S512x256x16_S512x16x256_0_2_1 := by
  show StableHlo.after hostOps2 (W4 m ρ c) (Proc.devRef .tc main_v6) = _
  entry_read
  exact congrArg (fun z => transpose S512x16x256 [0, 2, 1] z transposes_S512x256x16_S512x16x256_0_2_1) (W4_args m ρ c main_arg4 (by decide))

theorem at_v8 : (V7 m ρ c main_v8 : IVec S512x16x256 8) = transpose S512x16x256 [0, 2, 1] (m ((c.tc : Thread nD τ).loc main_arg6)) transposes_S512x256x16_S512x16x256_0_2_1 := by
  show StableHlo.after hostOps3 (W6 m ρ c) (Proc.devRef .tc main_v8) = _
  entry_read
  exact congrArg (fun z => transpose S512x16x256 [0, 2, 1] z transposes_S512x256x16_S512x16x256_0_2_1) (W6_args m ρ c main_arg6 (by decide))

theorem at_arg3 : V3 m ρ c main_arg3 = m ((c.tc : Thread nD τ).loc main_arg3) := W3_args m ρ c main_arg3 (by decide)
theorem at_arg5 : V5 m ρ c main_arg5 = m ((c.tc : Thread nD τ).loc main_arg5) := W5_args m ρ c main_arg5 (by decide)
theorem at_arg7 : V7 m ρ c main_arg7 = m ((c.tc : Thread nD τ).loc main_arg7) := W7_args m ρ c main_arg7 (by decide)

/-! ### The three projections -/

theorem query_lin (i : Fin 16) (n : Fin 4096) : blockLin (N := 4096) (V3 m ρ c main_v3) (V3 m ρ c main_v4) (V3 m ρ c main_arg3) i n
    = proj (m ((c.tc : Thread nD τ).loc main_arg0)) (m ((c.tc : Thread nD τ).loc main_arg1)) (m ((c.tc : Thread nD τ).loc main_arg2)) (m ((c.tc : Thread nD τ).loc main_arg3)) i n :=
  blockLin_eq _ _ _ _ _ _ (normed_at m ρ c) (fun n b g => (congrFun (at_v4 m ρ c) _).trans (q_codes _ n b g)) (at_arg3 m ρ c) i n

theorem key_lin (i : Fin 16) (n : Fin 512) : blockLin (N := 512) (V5 m ρ c main_v3) (V5 m ρ c main_v6) (V5 m ρ c main_arg5) i n
    = proj (m ((c.tc : Thread nD τ).loc main_arg0)) (m ((c.tc : Thread nD τ).loc main_arg1)) (m ((c.tc : Thread nD τ).loc main_arg4)) (m ((c.tc : Thread nD τ).loc main_arg5)) i n :=
  blockLin_eq _ _ _ _ _ _ (fun i K => (congrFun (v3_5 m ρ c) _).trans (normed_at m ρ c i K)) (fun n b g => (congrFun (at_v6 m ρ c) _).trans (kv_codes _ n b g))
    (at_arg5 m ρ c) i n

theorem value_lin (i : Fin 16) (n : Fin 512) : blockLin (N := 512) (V7 m ρ c main_v3) (V7 m ρ c main_v8) (V7 m ρ c main_arg7) i n
    = proj (m ((c.tc : Thread nD τ).loc main_arg0)) (m ((c.tc : Thread nD τ).loc main_arg1)) (m ((c.tc : Thread nD τ).loc main_arg6)) (m ((c.tc : Thread nD τ).loc main_arg7)) i n :=
  blockLin_eq _ _ _ _ _ _ (fun i K => (congrFun (v3_7 m ρ c) _).trans (normed_at m ρ c i K)) (fun n b g => (congrFun (at_v8 m ρ c) _).trans (kv_codes _ n b g))
    (at_arg7 m ρ c) i n

theorem pos_at (i : Fin 16) : (V1 m ρ c main_v1 : IVec S16x1 32) (ix2 i 0) = (m ((c.tc : Thread nD τ).loc main_arg8) : IVec S16 32) (ix1 i) :=
  (congrFun (at_v1 m ρ c) _).trans (col_pos _ i)

/-- The query array after its region. -/
theorem query_at (i : Fin 16) (h : Fin 32) (l : Fin 128) : (W8 m ρ c (Proc.devRef .tc main_v5) : FVec Ideal S16x4096 .bf16) (ix2 i ⟨128 * h.val + l.val, by omega⟩)
    = projRotary 32 rfl (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg8)) i h l := by
  have e : W8 m ρ c (Proc.devRef .tc main_v5) = (dat1 (V3 m ρ) c).arrAt 5 cfg1.N :=
    (W8_of m ρ c main_v5 (by decide +kernel)).trans ((W7_of m ρ c main_v5 (by decide)).trans ((W6_of m ρ c main_v5 (by decide +kernel)).trans
      ((W5_of m ρ c main_v5 (by decide)).trans (W4_arr m ρ c 5))))
  refine (congrFun (e.trans (arr1 (V3 m ρ) c)) _).trans ?_
  unfold ropeArr1 projRotary
  have hh : (128 * h.val + l.val) / 128 = h.val := by omega
  have hl : (128 * h.val + l.val) % 128 = l.val := by omega
  have hp : (V3 m ρ c main_v1 : IVec S16x1 32) (ix2 i 0) = (m ((c.tc : Thread nD τ).loc main_arg8) : IVec S16 32) (ix1 i) :=
    (congrFun (v1_3 m ρ c) _).trans (pos_at m ρ c i)
  refine congr (congr (congrArg rotary (funext fun k => ?_)) (funext fun j => ?_)) (Fin.ext hl)
  · refine (query_lin m ρ c i _).trans (congrArg _ (Fin.ext ?_))
    show 128 * ((128 * h.val + l.val) / 128) + k.val = 128 * h.val + k.val
    omega
  · exact congrArg (fun b : BitVec 32 => ((b.toInt : ℝ) : EReal) * freq j) hp

/-- The key array after its region. -/
theorem key_at (i : Fin 16) (h : Fin 4) (l : Fin 128) : (W8 m ρ c (Proc.devRef .tc main_v7) : FVec Ideal S16x512 .bf16) (ix2 i ⟨128 * h.val + l.val, by omega⟩)
    = projRotary 4 rfl (m ((c.tc : Thread nD τ).loc main_arg0)) (m ((c.tc : Thread nD τ).loc main_arg1)) (m ((c.tc : Thread nD τ).loc main_arg4))
        (m ((c.tc : Thread nD τ).loc main_arg5)) (m ((c.tc : Thread nD τ).loc main_arg8)) i h l := by
  have e : W8 m ρ c (Proc.devRef .tc main_v7) = (dat2 (V5 m ρ) c).arrAt 5 cfg2.N :=
    (W8_of m ρ c main_v7 (by decide +kernel)).trans ((W7_of m ρ c main_v7 (by decide)).trans (W6_arr m ρ c 5))
  refine (congrFun (e.trans (arr2 (V5 m ρ) c)) _).trans ?_
  unfold ropeArr2 projRotary
  have hl : (128 * h.val + l.val) % 128 = l.val := by omega
  have hp : (V5 m ρ c main_v1 : IVec S16x1 32) (ix2 i 0) = (m ((c.tc : Thread nD τ).loc main_arg8) : IVec S16 32) (ix1 i) :=
    (congrFun (v1_5 m ρ c) _).trans (pos_at m ρ c i)
  refine congr (congr (congrArg rotary (funext fun k => ?_)) (funext fun j => ?_)) (Fin.ext hl)
  · refine (key_lin m ρ c i _).trans (congrArg _ (Fin.ext ?_))
    show 128 * ((128 * h.val + l.val) / 128) + k.val = 128 * h.val + k.val
    omega
  · exact congrArg (fun b : BitVec 32 => ((b.toInt : ℝ) : EReal) * freq j) hp

/-- The value array after its region. -/
theorem value_at (i : Fin 16) (n : Fin 512) : (W8 m ρ c (Proc.devRef .tc main_v9) : FVec Ideal S16x512 .bf16) (ix2 i n)
    = proj (m ((c.tc : Thread nD τ).loc main_arg0)) (m ((c.tc : Thread nD τ).loc main_arg1)) (m ((c.tc : Thread nD τ).loc main_arg6)) (m ((c.tc : Thread nD τ).loc main_arg7)) i n := by
  refine (congrFun ((W8_arr m ρ c 5).trans (arr3 (V7 m ρ) c)) _).trans ?_
  exact value_lin m ρ c i n

/-! ### The results at the end -/

/-- The query at the end. -/
theorem query_end : (W9 m ρ c (Proc.devRef .tc main_v12) : FVec Ideal S16x32x128 .bf16) = fun j =>
    projRotary 32 rfl (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg8)) (j 0) (j 1) (j 2) := by
  show StableHlo.after hostOps4 (W8 m ρ c) (Proc.devRef .tc main_v12) = _
  entry_read
  funext j
  obtain ⟨i, h, l, rfl⟩ : ∃ (i : Fin 16) (h : Fin 32) (l : Fin 128), j = ix3 i h l := ⟨j 0, j 1, j 2, funext fun a => by fin_cases a <;> rfl⟩
  exact (heads_q _ i h l).trans (query_at m ρ c i h l)

/-- The key at the end. -/
theorem key_end : (W9 m ρ c (Proc.devRef .tc main_v13) : FVec Ideal S16x1x4x128 .bf16) = fun j =>
    projRotary 4 rfl (m ((c.tc : Thread nD τ).loc main_arg0)) (m ((c.tc : Thread nD τ).loc main_arg1)) (m ((c.tc : Thread nD τ).loc main_arg4))
        (m ((c.tc : Thread nD τ).loc main_arg5)) (m ((c.tc : Thread nD τ).loc main_arg8)) (j 0) (j 2) (j 3) := by
  show StableHlo.after hostOps4 (W8 m ρ c) (Proc.devRef .tc main_v13) = _
  entry_read
  funext j
  obtain ⟨i, u, h, l, rfl⟩ : ∃ (i : Fin 16) (u : Fin 1) (h : Fin 4) (l : Fin 128), j = ix4 i u h l := ⟨j 0, j 1, j 2, j 3, funext fun a => by fin_cases a <;> rfl⟩
  exact (heads_kv _ i u h l).trans (key_at m ρ c i h l)

/-- The value at the end. -/
theorem value_end : (W9 m ρ c (Proc.devRef .tc main_v14) : FVec Ideal S16x1x4x128 .bf16) = fun j =>
    proj (m ((c.tc : Thread nD τ).loc main_arg0)) (m ((c.tc : Thread nD τ).loc main_arg1)) (m ((c.tc : Thread nD τ).loc main_arg6)) (m ((c.tc : Thread nD τ).loc main_arg7))
      (j 0) ⟨128 * (j 2).val + (j 3).val, by
        have h2 := (j 2).isLt; have h3 := (j 3).isLt; change (j 2).val < 4 at h2; change (j 3).val < 128 at h3; omega⟩ := by
  show StableHlo.after hostOps4 (W8 m ρ c) (Proc.devRef .tc main_v14) = _
  entry_read
  funext j
  obtain ⟨i, u, h, l, rfl⟩ : ∃ (i : Fin 16) (u : Fin 1) (h : Fin 4) (l : Fin 128), j = ix4 i u h l := ⟨j 0, j 1, j 2, j 3, funext fun a => by fin_cases a <;> rfl⟩
  exact (heads_kv _ i u h l).trans (value_at m ρ c i _)

end Cert.KernelNewIdeal.Gen
-- ==== Proof.RefNew.lean ====
/-
  The reference of the new token's query, key and value: its three layers, its rotation, and its results as plain mathematics.
-/
module

public import proofs.«01_k».proof.Proof.Gen.ReferenceNewIdeal.Run
public import proofs.«01_k».proof.Proof.RefLin
public import proofs.«01_k».proof.Proof.NewSpec

@[expose] public section

set_option maxRecDepth 16384

noncomputable section

namespace Cert.ReferenceNewIdeal

open Idealize.ShloMosaic Idealize.ShloMosaic.TcCoe Cert.ReferenceNewIdeal.Gen Cert.ReferenceNewIdeal.Value Cert.Proof.Q4 Cert.Proof
open Cert.ReferenceIdeal (ofBits_eight sub_eight)
open Idealize.SL Idealize.SL.Sem

/-- The linear layer with 256 groups and 4096 outputs. -/
theorem lin_4096 (a : FVec Ideal S16x8192 .bf16) (codes : IVec S4096x256x16 8) (s : FVec Ideal S4096x256 .bf16)
    (X : FVec Ideal S16x256x16x2 .bf16) (D : IVec S4096x256x16 32) (T : FVec Ideal S4096x256x1 .bf16) (hX : X = shapeCast _ a shapeCasts_S16x8192_S16x256x16x2)
    (hD : D = extui 32 codes natLt_8_32) (hT : T = (broadcastInDim S4096x256x1 ![0, 1] bcast_S4096x256_S4096x256x1_0_1 s)) (m : Fin 16) (n : Fin 4096) :
    (Host.dotGeneral dot_S2x16x256x16_S2x4096x256x16_S16x4096_230_230_1_1_n_n none
      (concatenate S2x16x256x16 0
        [⟨S1x16x256x16, broadcastInDim S1x16x256x16 ![1, 2, 3] bcast_S16x256x16_S1x16x256x16_1_2_3 (shapeCast _ (extractStridedSlice S16x256x16x1 ![0, 0, 0, 0] X slices_S16x256x16x2_S16x256x16x1_0_0_0_0) shapeCasts_S16x256x16x1_S16x256x16)⟩,
         ⟨S1x16x256x16, broadcastInDim S1x16x256x16 ![1, 2, 3] bcast_S16x256x16_S1x16x256x16_1_2_3 (shapeCast _ (extractStridedSlice S16x256x16x1 ![0, 0, 0, 1] X slices_S16x256x16x2_S16x256x16x1_0_0_0_1) shapeCasts_S16x256x16x1_S16x256x16)⟩]
        concatenates_S1x16x256x16_S1x16x256x16_S2x16x256x16_d0)
      (concatenate S2x4096x256x16 0
        [⟨S1x4096x256x16, broadcastInDim S1x4096x256x16 ![1, 2, 3] bcast_S4096x256x16_S1x4096x256x16_1_2_3 (mulf (subf (sitofp .bf16 (andi D (broadcastInDim S4096x256x16 ![] bcast_S_S4096x256x16 (constantI S_ 32 15#32)))) (broadcastInDim S4096x256x16 ![] bcast_S_S4096x256x16 (constant S_ .bf16 0x4100#16))) (broadcastInDim S4096x256x16 ![0, 1, 2] bcast_S4096x256x1_S4096x256x16_0_1_2 T))⟩,
         ⟨S1x4096x256x16, broadcastInDim S1x4096x256x16 ![1, 2, 3] bcast_S4096x256x16_S1x4096x256x16_1_2_3 (mulf (subf (sitofp .bf16 (Host.shrsi D (broadcastInDim S4096x256x16 ![] bcast_S_S4096x256x16 (constantI S_ 32 4#32)))) (broadcastInDim S4096x256x16 ![] bcast_S_S4096x256x16 (constant S_ .bf16 0x4100#16))) (broadcastInDim S4096x256x16 ![0, 1, 2] bcast_S4096x256x1_S4096x256x16_0_1_2 T))⟩]
        concatenates_S1x4096x256x16_S1x4096x256x16_S2x4096x256x16_d0) : FVec Ideal S16x4096 .f32) (ix2 m n)
      = lin codes s (K := 8192) rfl a m n := by
  subst hX hD hT
  refine pair_dot (N := 4096) (G := 256) dot_S2x16x256x16_S2x4096x256x16_S16x4096_230_230_1_1_n_n_wf rfl _ _ codes s a m n (fun k => ?_) (fun k => ?_)
  · obtain h | h : k.val % 2 = 0 ∨ k.val % 2 = 1 := by omega
    · simp only [h]
      pointwise
      exact congrArg (fun i => a (ix2 m i)) (Fin.ext (by show k.val / 32 * 32 + k.val % 32 / 2 * 2 = k.val; omega))
    · simp only [h]
      pointwise
      exact congrArg (fun i => a (ix2 m i)) (Fin.ext (by show k.val / 32 * 32 + (k.val % 32 / 2 * 2 + 1) = k.val; omega))
  · obtain h | h : k.val % 2 = 0 ∨ k.val % 2 = 1 := by omega
    · simp only [h, wt]
      pointwise
      rw [ofBits_eight]
      exact congrArg (· * _) (sub_eight _ _ (low_toInt _))
    · simp only [h, wt]
      pointwise
      rw [ofBits_eight]
      exact congrArg (· * _) (sub_eight _ _ (high_toInt _))

/-- The linear layer with 256 groups and 512 outputs. -/
theorem lin_512 (a : FVec Ideal S16x8192 .bf16) (codes : IVec S512x256x16 8) (s : FVec Ideal S512x256 .bf16)
    (X : FVec Ideal S16x256x16x2 .bf16) (D : IVec S512x256x16 32) (T : FVec Ideal S512x256x1 .bf16) (hX : X = shapeCast _ a shapeCasts_S16x8192_S16x256x16x2)
    (hD : D = extui 32 codes natLt_8_32) (hT : T = (broadcastInDim S512x256x1 ![0, 1] bcast_S512x256_S512x256x1_0_1 s)) (m : Fin 16) (n : Fin 512) :
    (Host.dotGeneral dot_S2x16x256x16_S2x512x256x16_S16x512_230_230_1_1_n_n none
      (concatenate S2x16x256x16 0
        [⟨S1x16x256x16, broadcastInDim S1x16x256x16 ![1, 2, 3] bcast_S16x256x16_S1x16x256x16_1_2_3 (shapeCast _ (extractStridedSlice S16x256x16x1 ![0, 0, 0, 0] X slices_S16x256x16x2_S16x256x16x1_0_0_0_0) shapeCasts_S16x256x16x1_S16x256x16)⟩,
         ⟨S1x16x256x16, broadcastInDim S1x16x256x16 ![1, 2, 3] bcast_S16x256x16_S1x16x256x16_1_2_3 (shapeCast _ (extractStridedSlice S16x256x16x1 ![0, 0, 0, 1] X slices_S16x256x16x2_S16x256x16x1_0_0_0_1) shapeCasts_S16x256x16x1_S16x256x16)⟩]
        concatenates_S1x16x256x16_S1x16x256x16_S2x16x256x16_d0)
      (concatenate S2x512x256x16 0
        [⟨S1x512x256x16, broadcastInDim S1x512x256x16 ![1, 2, 3] bcast_S512x256x16_S1x512x256x16_1_2_3 (mulf (subf (sitofp .bf16 (andi D (broadcastInDim S512x256x16 ![] bcast_S_S512x256x16 (constantI S_ 32 15#32)))) (broadcastInDim S512x256x16 ![] bcast_S_S512x256x16 (constant S_ .bf16 0x4100#16))) (broadcastInDim S512x256x16 ![0, 1, 2] bcast_S512x256x1_S512x256x16_0_1_2 T))⟩,
         ⟨S1x512x256x16, broadcastInDim S1x512x256x16 ![1, 2, 3] bcast_S512x256x16_S1x512x256x16_1_2_3 (mulf (subf (sitofp .bf16 (Host.shrsi D (broadcastInDim S512x256x16 ![] bcast_S_S512x256x16 (constantI S_ 32 4#32)))) (broadcastInDim S512x256x16 ![] bcast_S_S512x256x16 (constant S_ .bf16 0x4100#16))) (broadcastInDim S512x256x16 ![0, 1, 2] bcast_S512x256x1_S512x256x16_0_1_2 T))⟩]
        concatenates_S1x512x256x16_S1x512x256x16_S2x512x256x16_d0) : FVec Ideal S16x512 .f32) (ix2 m n)
      = lin codes s (K := 8192) rfl a m n := by
  subst hX hD hT
  refine pair_dot (N := 512) (G := 256) dot_S2x16x256x16_S2x512x256x16_S16x512_230_230_1_1_n_n_wf rfl _ _ codes s a m n (fun k => ?_) (fun k => ?_)
  · obtain h | h : k.val % 2 = 0 ∨ k.val % 2 = 1 := by omega
    · simp only [h]
      pointwise
      exact congrArg (fun i => a (ix2 m i)) (Fin.ext (by show k.val / 32 * 32 + k.val % 32 / 2 * 2 = k.val; omega))
    · simp only [h]
      pointwise
      exact congrArg (fun i => a (ix2 m i)) (Fin.ext (by show k.val / 32 * 32 + (k.val % 32 / 2 * 2 + 1) = k.val; omega))
  · obtain h | h : k.val % 2 = 0 ∨ k.val % 2 = 1 := by omega
    · simp only [h, wt]
      pointwise
      rw [ofBits_eight]
      exact congrArg (· * _) (sub_eight _ _ (low_toInt _))
    · simp only [h, wt]
      pointwise
      rw [ofBits_eight]
      exact congrArg (· * _) (sub_eight _ _ (high_toInt _))

end Cert.ReferenceNewIdeal
-- ==== Proof.RefNewSpec.lean ====
/-
  The reference's results for the new token: the rotated query, the rotated key and the value of its arguments.
-/
module

public import proofs.«01_k».proof.Proof.RefNew

@[expose] public section

set_option maxRecDepth 16384

noncomputable section

namespace Cert.ReferenceNewIdeal

open Idealize.ShloMosaic Idealize.ShloMosaic.TcCoe Cert.ReferenceNewIdeal.Gen Cert.ReferenceNewIdeal.Value Cert.Proof.Q4 Cert.Proof
open Idealize.SL Idealize.SL.Sem

/-- The reference's rotation of 32 heads at an element. -/
theorem rot_32 (Y : FVec Ideal S16x32x128 .f32) (A : FVec Ideal S16x64 .f32) (pos : IVec S16 32) (hA : ∀ (i : Fin 16) (j : Fin 64), A (ix2 i j) = angle pos i j.val)
    (i : Fin 16) (h : Fin 32) (l : Fin 128) :
    (truncf .bf16 (concatenate S16x32x128 2
      [⟨S16x32x64, (subf
          (mulf (extractStridedSlice S16x32x64 ![0, 0, 0] Y slices_S16x32x128_S16x32x64_0_0_0) (broadcastInDim S16x32x64 ![0, 1, 2] bcast_S16x1x64_S16x32x64_0_1_2 (broadcastInDim S16x1x64 ![0, 2] bcast_S16x64_S16x1x64_0_2 (Host.cos A))))
          (mulf (extractStridedSlice S16x32x64 ![0, 0, 64] Y slices_S16x32x128_S16x32x64_0_0_64) (broadcastInDim S16x32x64 ![0, 1, 2] bcast_S16x1x64_S16x32x64_0_1_2 (broadcastInDim S16x1x64 ![0, 2] bcast_S16x64_S16x1x64_0_2 (Host.sin A)))) : FVec Ideal S16x32x64 .f32)⟩,
       ⟨S16x32x64, (addf
          (mulf (extractStridedSlice S16x32x64 ![0, 0, 64] Y slices_S16x32x128_S16x32x64_0_0_64) (broadcastInDim S16x32x64 ![0, 1, 2] bcast_S16x1x64_S16x32x64_0_1_2 (broadcastInDim S16x1x64 ![0, 2] bcast_S16x64_S16x1x64_0_2 (Host.cos A))))
          (mulf (extractStridedSlice S16x32x64 ![0, 0, 0] Y slices_S16x32x128_S16x32x64_0_0_0) (broadcastInDim S16x32x64 ![0, 1, 2] bcast_S16x1x64_S16x32x64_0_1_2 (broadcastInDim S16x1x64 ![0, 2] bcast_S16x64_S16x1x64_0_2 (Host.sin A)))) : FVec Ideal S16x32x64 .f32)⟩]
      concatenates_S16x32x64_S16x32x64_S16x32x128_d2) bitsLt_bf16_f32 : FVec Ideal S16x32x128 .bf16) (ix3 i h l)
      = rotary (fun k => Y (ix3 i h k)) (angle pos i) l := by
  obtain ⟨j, rfl⟩ | ⟨j, rfl⟩ : (∃ j : Fin 64, l = ⟨j.val, by omega⟩) ∨ ∃ j : Fin 64, l = ⟨j.val + 64, by omega⟩ := by
    by_cases hl : l.val < 64
    · exact .inl ⟨⟨l.val, hl⟩, rfl⟩
    · exact .inr ⟨⟨l.val - 64, by omega⟩, Fin.ext (by show l.val = l.val - 64 + 64; omega)⟩
  · have e : rotary (fun k => Y (ix3 i h k)) (angle pos i) ⟨j.val, by omega⟩
        = Y (ix3 i h ⟨j.val, by omega⟩) * Ideal.cos (angle pos i j.val) - Y (ix3 i h ⟨j.val + 64, by omega⟩) * Ideal.sin (angle pos i j.val) := dif_pos j.isLt
    rw [e, ← hA]
    pointwise
    simp only [Nat.add_comm 64 j.val]
  · have e : rotary (fun k => Y (ix3 i h k)) (angle pos i) ⟨j.val + 64, by omega⟩
        = Y (ix3 i h ⟨j.val + 64, by omega⟩) * Ideal.cos (angle pos i j.val) + Y (ix3 i h ⟨j.val, by omega⟩) * Ideal.sin (angle pos i j.val) := by
      refine (dif_neg (by show ¬ j.val + 64 < 64; omega)).trans ?_
      simp only [Nat.add_sub_cancel]
    rw [e, ← hA]
    pointwise
    rw [dif_neg (by omega)]
    simp only [Nat.add_sub_cancel, Nat.add_comm 64 j.val]

/-- The reference's rotation of 4 heads at an element. -/
theorem rot_4 (Y : FVec Ideal S16x4x128 .f32) (A : FVec Ideal S16x64 .f32) (pos : IVec S16 32) (hA : ∀ (i : Fin 16) (j : Fin 64), A (ix2 i j) = angle pos i j.val)
    (i : Fin 16) (h : Fin 4) (l : Fin 128) :
    (truncf .bf16 (concatenate S16x4x128 2
      [⟨S16x4x64, (subf
          (mulf (extractStridedSlice S16x4x64 ![0, 0, 0] Y slices_S16x4x128_S16x4x64_0_0_0) (broadcastInDim S16x4x64 ![0, 1, 2] bcast_S16x1x64_S16x4x64_0_1_2 (broadcastInDim S16x1x64 ![0, 2] bcast_S16x64_S16x1x64_0_2 (Host.cos A))))
          (mulf (extractStridedSlice S16x4x64 ![0, 0, 64] Y slices_S16x4x128_S16x4x64_0_0_64) (broadcastInDim S16x4x64 ![0, 1, 2] bcast_S16x1x64_S16x4x64_0_1_2 (broadcastInDim S16x1x64 ![0, 2] bcast_S16x64_S16x1x64_0_2 (Host.sin A)))) : FVec Ideal S16x4x64 .f32)⟩,
       ⟨S16x4x64, (addf
          (mulf (extractStridedSlice S16x4x64 ![0, 0, 64] Y slices_S16x4x128_S16x4x64_0_0_64) (broadcastInDim S16x4x64 ![0, 1, 2] bcast_S16x1x64_S16x4x64_0_1_2 (broadcastInDim S16x1x64 ![0, 2] bcast_S16x64_S16x1x64_0_2 (Host.cos A))))
          (mulf (extractStridedSlice S16x4x64 ![0, 0, 0] Y slices_S16x4x128_S16x4x64_0_0_0) (broadcastInDim S16x4x64 ![0, 1, 2] bcast_S16x1x64_S16x4x64_0_1_2 (broadcastInDim S16x1x64 ![0, 2] bcast_S16x64_S16x1x64_0_2 (Host.sin A)))) : FVec Ideal S16x4x64 .f32)⟩]
      concatenates_S16x4x64_S16x4x64_S16x4x128_d2) bitsLt_bf16_f32 : FVec Ideal S16x4x128 .bf16) (ix3 i h l)
      = rotary (fun k => Y (ix3 i h k)) (angle pos i) l := by
  obtain ⟨j, rfl⟩ | ⟨j, rfl⟩ : (∃ j : Fin 64, l = ⟨j.val, by omega⟩) ∨ ∃ j : Fin 64, l = ⟨j.val + 64, by omega⟩ := by
    by_cases hl : l.val < 64
    · exact .inl ⟨⟨l.val, hl⟩, rfl⟩
    · exact .inr ⟨⟨l.val - 64, by omega⟩, Fin.ext (by show l.val = l.val - 64 + 64; omega)⟩
  · have e : rotary (fun k => Y (ix3 i h k)) (angle pos i) ⟨j.val, by omega⟩
        = Y (ix3 i h ⟨j.val, by omega⟩) * Ideal.cos (angle pos i j.val) - Y (ix3 i h ⟨j.val + 64, by omega⟩) * Ideal.sin (angle pos i j.val) := dif_pos j.isLt
    rw [e, ← hA]
    pointwise
    simp only [Nat.add_comm 64 j.val]
  · have e : rotary (fun k => Y (ix3 i h k)) (angle pos i) ⟨j.val + 64, by omega⟩
        = Y (ix3 i h ⟨j.val + 64, by omega⟩) * Ideal.cos (angle pos i j.val) + Y (ix3 i h ⟨j.val, by omega⟩) * Ideal.sin (angle pos i j.val) := by
      refine (dif_neg (by show ¬ j.val + 64 < 64; omega)).trans ?_
      simp only [Nat.add_sub_cancel]
    rw [e, ← hA]
    pointwise
    rw [dif_neg (by omega)]
    simp only [Nat.add_sub_cancel, Nat.add_comm 64 j.val]

theorem heads_q (x : FVec Ideal S16x4096 .f32) (i : Fin 16) (h : Fin 32) (l : Fin 128) :
    shapeCast S16x32x128 x shapeCasts_S16x4096_S16x32x128 (ix3 i h l) = x (ix2 i ⟨128 * h.val + l.val, by omega⟩) := by
  pointwise
  exact congrArg (fun n => x (ix2 i n)) (Fin.ext (by show h.val * 128 + l.val = 128 * h.val + l.val; omega))

theorem heads_kv (x : FVec Ideal S16x512 .f32) (i : Fin 16) (h : Fin 4) (l : Fin 128) :
    shapeCast S16x4x128 x shapeCasts_S16x512_S16x4x128 (ix3 i h l) = x (ix2 i ⟨128 * h.val + l.val, by omega⟩) := by
  pointwise
  exact congrArg (fun n => x (ix2 i n)) (Fin.ext (by show h.val * 128 + l.val = 128 * h.val + l.val; omega))

/-- The result with its axis of one token. -/
theorem unit_kv (x : FVec Ideal S16x4x128 .bf16) : shapeCast S16x1x4x128 x shapeCasts_S16x4x128_S16x1x4x128 = fun j => x (ix3 (j 0) (j 2) (j 3)) := by
  funext j
  obtain ⟨i, u, h, l, rfl⟩ : ∃ (i : Fin 16) (u : Fin 1) (h : Fin 4) (l : Fin 128), j = ix4 i u h l := ⟨j 0, j 1, j 2, j 3, funext fun a => by fin_cases a <;> rfl⟩
  pointwise

/-- The value rounded and in its axes. -/
theorem value_split (x : FVec Ideal S16x512 .f32) :
    shapeCast S16x1x4x128 (truncf .bf16 (shapeCast S16x4x128 x shapeCasts_S16x512_S16x4x128) bitsLt_bf16_f32 : FVec Ideal S16x4x128 .bf16) shapeCasts_S16x4x128_S16x1x4x128
      = fun j => x (ix2 (j 0) (⟨128 * (j 2).val + (j 3).val, by
          have h2 := (j 2).isLt; have h3 := (j 3).isLt; change (j 2).val < 4 at h2; change (j 3).val < 128 at h3; omega⟩ : Fin 512)) :=
  (unit_kv _).trans (funext fun j => heads_kv x (j 0) (j 2) (j 3))

variable (V : Valuation τ sig (Elt Ideal))

theorem normed_eq : (res_main_v16 V : FVec Ideal S16x8192 .bf16) = normed (row (V (Proc.devRef .tc main_arg0))) (V (Proc.devRef .tc main_arg1)) := by
  funext j
  obtain ⟨m, n, rfl⟩ : ∃ (m : Fin 16) (n : Fin 8192), j = ix2 m n := ⟨j 0, j 1, funext fun a => by fin_cases a <;> rfl⟩
  have e : (res_main_v1 V : FVec Ideal S16x8192 .f32) = row (V (Proc.devRef .tc main_arg0)) := by
    funext j
    obtain ⟨m, n, rfl⟩ : ∃ (m : Fin 16) (n : Fin 8192), j = ix2 m n := ⟨j 0, j 1, funext fun a => by fin_cases a <;> rfl⟩
    unfold res_main_v1 row
    pointwise
  unfold res_main_v16 normed
  rw [e]
  generalize row (V (Proc.devRef .tc main_arg0)) = y
  pointwise

theorem half_lane_toInt (j : Fin 64) : (BitVec.ofNat 32 j.val).toInt = ((j.val : Nat) : ℤ) := by
  revert j; decide +kernel

theorem angle_eq (i : Fin 16) (j : Fin 64) : (res_main_v116 V : FVec Ideal S16x64 .f32) (ix2 i j) = angle (V (Proc.devRef .tc main_arg8)) i j.val := by
  unfold res_main_v116 angle
  rw [← freq_pow]
  pointwise
  have e : FloatOps.sitofp (F := Ideal) FTy.f32 (BitVec.ofNat 32 j.val) = (((j.val : ℝ)) : EReal) := by
    show (((BitVec.ofNat 32 j.val).toInt : ℝ) : EReal) = _
    rw [half_lane_toInt, Int.cast_natCast]
  rw [e]
  rfl

theorem query_eq (i : Fin 16) (h : Fin 32) (l : Fin 128) : (res_main_v45 V : FVec Ideal S16x32x128 .f32) (ix3 i h l)
    = proj (V (Proc.devRef .tc main_arg0)) (V (Proc.devRef .tc main_arg1)) (V (Proc.devRef .tc main_arg2)) (V (Proc.devRef .tc main_arg3)) i ⟨128 * h.val + l.val, by omega⟩ := by
  unfold res_main_v45 proj
  refine (heads_q _ i h l).trans ?_
  rw [← normed_eq]
  exact lin_4096 _ _ _ _ _ _ rfl rfl rfl i _

theorem key_eq (i : Fin 16) (h : Fin 4) (l : Fin 128) : (res_main_v74 V : FVec Ideal S16x4x128 .f32) (ix3 i h l)
    = proj (V (Proc.devRef .tc main_arg0)) (V (Proc.devRef .tc main_arg1)) (V (Proc.devRef .tc main_arg4)) (V (Proc.devRef .tc main_arg5)) i ⟨128 * h.val + l.val, by omega⟩ := by
  unfold res_main_v74 proj
  refine (heads_kv _ i h l).trans ?_
  rw [← normed_eq]
  exact lin_512 _ _ _ _ _ _ rfl rfl rfl i _

/-- The reference's run, its results as plain mathematics of its arguments, which are unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v134) = (fun j => projRotary 32 rfl (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg8)) (j 0) (j 1) (j 2) : FVec Ideal S16x32x128 .bf16)
        ∧ r.2.mem ((c.tc : Thread nD τ).loc main_v165) = (fun j => projRotary 4 rfl (m ((c.tc : Thread nD τ).loc main_arg0)) (m ((c.tc : Thread nD τ).loc main_arg1))
          (m ((c.tc : Thread nD τ).loc main_arg4)) (m ((c.tc : Thread nD τ).loc main_arg5)) (m ((c.tc : Thread nD τ).loc main_arg8)) (j 0) (j 2) (j 3) : FVec Ideal S16x1x4x128 .bf16)
        ∧ r.2.mem ((c.tc : Thread nD τ).loc main_v166) = (fun j => proj (m ((c.tc : Thread nD τ).loc main_arg0)) (m ((c.tc : Thread nD τ).loc main_arg1))
          (m ((c.tc : Thread nD τ).loc main_arg6)) (m ((c.tc : Thread nD τ).loc main_arg7)) (j 0) ⟨128 * (j 2).val + (j 3).val, by
            have h2 := (j 2).isLt; have h3 := (j 3).isLt; change (j 2).val < 4 at h2; change (j 3).val < 128 at h3; omega⟩ : FVec Ideal S16x1x4x128 .bf16)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8) := by
  refine (θ_run defs _ _).mono (fun _ h c => ⟨(h c).1.trans ?_, (h c).2.1.trans ?_, (h c).2.2.1.trans ?_, (h c).2.2.2⟩) (Value.run m ρ)
  · funext j
    obtain ⟨i, h, l, rfl⟩ : ∃ (i : Fin 16) (h : Fin 32) (l : Fin 128), j = ix3 i h l := ⟨j 0, j 1, j 2, funext fun a => by fin_cases a <;> rfl⟩
    refine (rot_32 _ _ _ (angle_eq (StableHlo.launchContents m c)) i h l).trans ?_
    exact congrArg (fun f => rotary f _ l) (funext fun k => query_eq (StableHlo.launchContents m c) i h k)
  · refine (unit_kv _).trans (funext fun j => ?_)
    obtain ⟨i, u, h, l, rfl⟩ : ∃ (i : Fin 16) (u : Fin 1) (h : Fin 4) (l : Fin 128), j = ix4 i u h l := ⟨j 0, j 1, j 2, j 3, funext fun a => by fin_cases a <;> rfl⟩
    refine (rot_4 _ _ _ (angle_eq (StableHlo.launchContents m c)) i h l).trans ?_
    exact congrArg (fun f => rotary f _ l) (funext fun k => key_eq (StableHlo.launchContents m c) i h k)
  · refine (value_split _).trans (funext fun j => ?_)
    obtain ⟨i, u, h, l, rfl⟩ : ∃ (i : Fin 16) (u : Fin 1) (h : Fin 4) (l : Fin 128), j = ix4 i u h l := ⟨j 0, j 1, j 2, j 3, funext fun a => by fin_cases a <;> rfl⟩
    refine (lin_512 _ _ _ _ _ _ rfl rfl rfl i _).trans ?_
    unfold proj
    rw [normed_eq]
    rfl

end Cert.ReferenceNewIdeal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Layer
public import proofs.«01_k».proof.Proof.RefSpec
public import proofs.«01_k».proof.Proof.NewLayer
public import proofs.«01_k».proof.Proof.RefNewSpec
public import proofs.«01_k».proof.Proof.Gen.KernelNew.Frame
public import proofs.«01_k».proof.Proof.Gen.KernelNewIdeal.Frame
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments end unchanged, and no counter is left: it declares no semaphore. -/
theorem frame_reference : Cert.quiescent_ReferenceIdeal (hReferenceIdeal := Cert.ReferenceIdeal.Gen.facts) := by
  intro m ρ _
  exact (θ_run Cert.ReferenceIdeal.defs _ _).mono (fun r h => ⟨fun c => (h c).2, Idealize.ShloMosaic.sem_eq_zero_of_no_sems (by decide) r.2⟩)
    (Cert.ReferenceIdeal.run_spec m ρ)

/-- From equal arguments, the kernel's five calls and the reference end with the same output: both are `Q4.result` of the
    arguments (Proof/Layer.lean for the kernel, Proof/RefSpec.lean for the reference). -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, (θ_run Cert.KernelIdeal.defs _ _).mono (fun r h c => ⟨(h c).1.trans (Cert.KernelIdeal.Gen.result_end m g c), (h c).2⟩)
    (Cert.KernelIdeal.Gen.run_result m g), (θ_run Cert.ReferenceIdeal.defs _ _).mono (fun r h c => ⟨(h c).1.trans ?_, (h c).2⟩)
    (Cert.ReferenceIdeal.run_spec m' g')⟩
  obtain ⟨h0, h1, h2, h3, h4, h5, h6, h7, h8, h9, h10⟩ := hagree c
  rw [h0, h1, h2, h3, h4, h5, h6, h7, h8, h9, h10]
  rfl

/-- The reference of the new token runs, its arguments end unchanged, and no counter is left: it declares no semaphore. -/
theorem frame_reference_new : Cert.quiescent_ReferenceNewIdeal (hReferenceNewIdeal := Cert.ReferenceNewIdeal.Gen.facts) := by
  intro m ρ _
  exact (θ_run Cert.ReferenceNewIdeal.defs _ _).mono (fun r h => ⟨fun c => (h c).2.2.2, Idealize.ShloMosaic.sem_eq_zero_of_no_sems (by decide) r.2⟩)
    (Cert.ReferenceNewIdeal.run_spec m ρ)

/-- From equal arguments, the kernel's four calls and the reference end with the same query, key and value of the new token
    (Proof/NewLayer.lean for the kernel, Proof/RefNewSpec.lean for the reference). -/
theorem algebraic_new : Cert.algebraic_KernelNewIdeal_ReferenceNewIdeal (hKernelNewIdeal := Cert.KernelNewIdeal.Gen.facts)
    (hReferenceNewIdeal := Cert.ReferenceNewIdeal.Gen.facts) := by
  intro m g m' g' _ hagree
  refine ⟨_, _, _, (θ_run Cert.KernelNewIdeal.defs _ _).mono (fun r h c => ⟨(h c).1.trans (Cert.KernelNewIdeal.Gen.query_end m g c),
      (h c).2.1.trans (Cert.KernelNewIdeal.Gen.key_end m g c), (h c).2.2.1.trans (Cert.KernelNewIdeal.Gen.value_end m g c), (h c).2.2.2⟩)
    (Cert.KernelNewIdeal.Gen.run_result m g), (θ_run Cert.ReferenceNewIdeal.defs _ _).mono
      (fun r h c => ⟨(h c).1.trans ?_, (h c).2.1.trans ?_, (h c).2.2.1.trans ?_, (h c).2.2.2⟩) (Cert.ReferenceNewIdeal.run_spec m' g')⟩
  all_goals
    obtain ⟨h0, h1, h2, h3, h4, h5, h6, h7, h8⟩ := hagree c
  · rw [h0, h1, h2, h3, h8]; rfl
  · rw [h0, h1, h4, h5, h8]; rfl
  · rw [h0, h1, h6, h7]; rfl

/-- The claims of the two programs together. -/
theorem claim : Cert.Claim := ⟨Cert.Kernel.Gen.facts, Cert.KernelIdeal.Gen.facts, Cert.ReferenceIdeal.Gen.facts,
  Cert.KernelNew.Gen.facts, Cert.KernelNewIdeal.Gen.facts, Cert.ReferenceNewIdeal.Gen.facts,
  fun m ρ _ => Cert.Kernel.Gen.frame m ρ, fun m ρ _ => Cert.KernelIdeal.Gen.frame m ρ, frame_reference,
  fun m ρ _ => Cert.KernelNew.Gen.frame m ρ, fun m ρ _ => Cert.KernelNewIdeal.Gen.frame m ρ, frame_reference_new,
  trivial, algebraic, trivial, algebraic_new⟩

end Cert.Proof

end
